-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_coarse_levels_out_of_reach [hPre_coarse_levels_out_of_reach : Cert.Pre_coarse_levels_out_of_reach.Facts] (m : (ℓ : Loc Cert.KernelIdeal.nD Cert.KernelIdeal.τ Cert.KernelIdeal.sig) → Buf (Elt Ideal) ℓ) : Prop :=
  ∀ c : Dev Cert.KernelIdeal.nD,
    (Cert.Pre_coarse_levels_out_of_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_coarse_levels_out_of_reach [hPre_coarse_levels_out_of_reach : Cert.Pre_coarse_levels_out_of_reach.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_coarse_levels_out_of_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_coarse_levels_out_of_reach [hKernelIdeal : Cert.KernelIdeal.Facts] [hPre_coarse_levels_out_of_reach : Cert.Pre_coarse_levels_out_of_reach.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_coarse_levels_out_of_reach m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_coarse_levels_out_of_reach [hReferenceIdeal : Cert.ReferenceIdeal.Facts] [hPre_coarse_levels_out_of_reach : Cert.Pre_coarse_levels_out_of_reach.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_coarse_levels_out_of_reach m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pack.Statement Cert.KernelIdeal.S1000x5

def algebraic_KernelIdeal_ReferenceIdeal_pre_coarse_levels_out_of_reach [hKernelIdeal : Cert.KernelIdeal.Facts] [hReferenceIdeal : Cert.ReferenceIdeal.Facts] [hPre_coarse_levels_out_of_reach : Cert.Pre_coarse_levels_out_of_reach.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_coarse_levels_out_of_reach m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_coarse_levels_out_of_reach : Cert.Pre_coarse_levels_out_of_reach.Facts),
    quiescent_Kernel (hKernel := hKernel)
    ∧ quiescent_KernelIdeal (hKernelIdeal := hKernelIdeal)
    ∧ quiescent_KernelIdeal_pre_coarse_levels_out_of_reach (hKernelIdeal := hKernelIdeal) (hPre_coarse_levels_out_of_reach := hPre_coarse_levels_out_of_reach)
    ∧ quiescent_ReferenceIdeal (hReferenceIdeal := hReferenceIdeal)
    ∧ quiescent_ReferenceIdeal_pre_coarse_levels_out_of_reach (hReferenceIdeal := hReferenceIdeal) (hPre_coarse_levels_out_of_reach := hPre_coarse_levels_out_of_reach)
    ∧ preserves_Kernel_KernelIdeal
    ∧ algebraic_KernelIdeal_ReferenceIdeal_pre_coarse_levels_out_of_reach (hKernelIdeal := hKernelIdeal) (hReferenceIdeal := hReferenceIdeal) (hPre_coarse_levels_out_of_reach := hPre_coarse_levels_out_of_reach)
-- ==== Pre_coarse_levels_out_of_reach.lean ====
abbrev S3x512x512 : Shape := ⟨3, ![3, 512, 512]⟩
abbrev S1000x4 : Shape := ⟨2, ![1000, 4]⟩
abbrev S1000 : Shape := ⟨1, ![1000]⟩
abbrev S5456x2 : Shape := ⟨2, ![5456, 2]⟩
abbrev S_ : Shape := ⟨0, ![]⟩
abbrev S1000x2 : Shape := ⟨2, ![1000, 2]⟩
abbrev S336x1 : Shape := ⟨2, ![336, 1]⟩
abbrev S336 : Shape := ⟨1, ![336]⟩

class Facts : Prop where
  bcast_S_S1000x4 : S_.BroadcastsInDim S1000x4 (![] : Fin 0 → Fin S1000x4.rank)
  slices_S1000x4_S1000x2_0_2 : S1000x4.Slices ![0, 2] S1000x2
  slices_S1000x4_S1000x2_0_0 : S1000x4.Slices ![0, 0] S1000x2
  bcast_S_S1000x2 : S_.BroadcastsInDim S1000x2 (![] : Fin 0 → Fin S1000x2.rank)
  slices_S5456x2_S336x1_5120_0 : S5456x2.Slices ![5120, 0] S336x1
  shapeCasts_S336x1_S336 : S336x1.ShapeCasts S336
  bcast_S_S336 : S_.BroadcastsInDim S336 (![] : Fin 0 → Fin S336.rank)
  reducesTo_S1000x4_S_d0_1 : S1000x4.ReducesTo [0, 1] S_
  h_S_ : 0 < S_.numel
  reducesTo_S1000x2_S_d0_1 : S1000x2.ReducesTo [0, 1] S_
  reducesTo_S336_S_d0 : S336.ReducesTo [0] S_

variable [Facts]

def fn_part1 {F : FTy → Type} [FloatOps F] (main_v13 : IVec S336 1) (main_v16 : IVec S_ 1) (main_c_4 : IVec S_ 1) : IVec S_ 1 :=
  let main_v17 : IVec S_ 1 := (fun x v => Host.reduce IntOp.andi x v reducesTo_S336_S_d0 h_S_) main_v13 main_c_4
  let main_v18 : IVec S_ 1 := andi main_v16 main_v17
  main_v18

def fn {F : FTy → Type} [FloatOps F] (main_arg0 : FVec F S3x512x512 .f32) (main_arg1 : FVec F S1000x4 .f32) (main_arg2 : IVec S1000 32) (main_arg3 : FVec F S5456x2 .f32) (main_arg4 : FVec F S5456x2 .f32) : IVec S_ 1 :=
  let main_cst : FVec F S_ .f32 := constant S_ .f32 0xFF800000#32
  let main_v0 : FVec F S1000x4 .f32 := broadcastInDim S1000x4 ![] bcast_S_S1000x4 main_cst
  let main_v1 : IVec S1000x4 1 := cmpf .ogt main_arg1 main_v0
  let main_cst_0 : FVec F S_ .f32 := constant S_ .f32 0x7F800000#32
  let main_v2 : FVec F S1000x4 .f32 := broadcastInDim S1000x4 ![] bcast_S_S1000x4 main_cst_0
  let main_v3 : IVec S1000x4 1 := cmpf .olt main_arg1 main_v2
  let main_v4 : IVec S1000x4 1 := andi main_v1 main_v3
  let main_v5 : FVec F S1000x2 .f32 := (extractStridedSlice S1000x2 ![0, 2] · slices_S1000x4_S1000x2_0_2) main_arg1
  let main_v6 : FVec F S1000x2 .f32 := (extractStridedSlice S1000x2 ![0, 0] · slices_S1000x4_S1000x2_0_0) main_arg1
  let main_v7 : FVec F S1000x2 .f32 := subf main_v5 main_v6
  let main_cst_1 : FVec F S_ .f32 := constant S_ .f32 0x43000000#32
  let main_v8 : FVec F S1000x2 .f32 := broadcastInDim S1000x2 ![] bcast_S_S1000x2 main_cst_1
  let main_v9 : IVec S1000x2 1 := cmpf .olt main_v7 main_v8
  let main_v10 : FVec F S336x1 .f32 := (extractStridedSlice S336x1 ![5120, 0] · slices_S5456x2_S336x1_5120_0) main_arg4
  let main_v11 : FVec F S336 .f32 := shapeCast S336 main_v10 shapeCasts_S336x1_S336
  let main_cst_2 : FVec F S_ .f32 := constant S_ .f32 0x43000000#32
  let main_v12 : FVec F S336 .f32 := broadcastInDim S336 ![] bcast_S_S336 main_cst_2
  let main_v13 : IVec S336 1 := cmpf .oge main_v11 main_v12
  let main_c : IVec S_ 1 := constantI S_ 1 1#1
  let main_v14 : IVec S_ 1 := (fun x v => Host.reduce IntOp.andi x v reducesTo_S1000x4_S_d0_1 h_S_) main_v4 main_c
  let main_c_3 : IVec S_ 1 := constantI S_ 1 1#1
  let main_v15 : IVec S_ 1 := (fun x v => Host.reduce IntOp.andi x v reducesTo_S1000x2_S_d0_1 h_S_) main_v9 main_c_3
  let main_v16 : IVec S_ 1 := andi main_v14 main_v15
  let main_c_4 : IVec S_ 1 := constantI S_ 1 1#1
  fn_part1 (F := F) main_v13 main_v16 main_c_4
-- ==== Kernel.lean ====
abbrev S3x512x512 : Shape := ⟨3, ![3, 512, 512]⟩
abbrev S1000x4 : Shape := ⟨2, ![1000, 4]⟩
abbrev S1000 : Shape := ⟨1, ![1000]⟩
abbrev S5456x2 : Shape := ⟨2, ![5456, 2]⟩
abbrev S1000x1 : Shape := ⟨2, ![1000, 1]⟩
abbrev S5456x4 : Shape := ⟨2, ![5456, 4]⟩
abbrev S5456x1 : Shape := ⟨2, ![5456, 1]⟩
abbrev S4x1000 : Shape := ⟨2, ![4, 1000]⟩
abbrev S1x1000 : Shape := ⟨2, ![1, 1000]⟩
abbrev S1000x5 : Shape := ⟨2, ![1000, 5]⟩
abbrev S1000x15 : Shape := ⟨2, ![1000, 15]⟩
abbrev S2560x1 : Shape := ⟨2, ![2560, 1]⟩
abbrev S2560x1000 : Shape := ⟨2, ![2560, 1000]⟩
abbrev S2560 : Shape := ⟨1, ![2560]⟩
abbrev S2560x15 : Shape := ⟨2, ![2560, 15]⟩
abbrev S2560x5 : Shape := ⟨2, ![2560, 5]⟩
abbrev S336x1 : Shape := ⟨2, ![336, 1]⟩
abbrev S1x1 : Shape := ⟨2, ![1, 1]⟩
abbrev S5456 : Shape := ⟨1, ![5456]⟩

abbrev nBuf : Space → Nat
  | .hbm => 10
  | .vmem => 7
  | .smem => 0
  | _ => 0

abbrev bufTy : (tb : Table) → Fin (tcTables nBuf tb) → BufTy
  | .hbm, ⟨0, _⟩ => ⟨S3x512x512, .f32⟩
  | .hbm, ⟨1, _⟩ => ⟨S1000x4, .f32⟩
  | .hbm, ⟨2, _⟩ => ⟨S1000, .i32⟩
  | .hbm, ⟨3, _⟩ => ⟨S5456x2, .f32⟩
  | .hbm, ⟨4, _⟩ => ⟨S5456x2, .f32⟩
  | .hbm, ⟨5, _⟩ => ⟨S1000x1, .i32⟩
  | .hbm, ⟨6, _⟩ => ⟨S5456x4, .f32⟩
  | .hbm, ⟨7, _⟩ => ⟨S5456x1, .i32⟩
  | .hbm, ⟨8, _⟩ => ⟨S5456x1, .f32⟩
  | .hbm, ⟨9, _⟩ => ⟨S5456, .i32⟩
  | .local _ .vmem, ⟨0, _⟩ => ⟨S1000x4, .f32⟩
  | .local _ .vmem, ⟨1, _⟩ => ⟨S1000x1, .i32⟩
  | .local _ .vmem, ⟨2, _⟩ => ⟨S5456x2, .f32⟩
  | .local _ .vmem, ⟨3, _⟩ => ⟨S5456x2, .f32⟩
  | .local _ .vmem, ⟨4, _⟩ => ⟨S5456x4, .f32⟩
  | .local _ .vmem, ⟨5, _⟩ => ⟨S5456x1, .i32⟩
  | .local _ .vmem, ⟨6, _⟩ => ⟨S5456x1, .f32⟩
  | _, _ => ⟨S3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32_8 : BitVec 32 := 0#32
  let c2_i32 : BitVec 32 := 2#32
  let v26 : BitVec 32 := Scalar.addi c0_i32_8 c2_i32
  let c1_i32 : BitVec 32 := 1#32
  ⟨c0_i32_8, v26, c1_i32⟩
def k0_off1 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c2560_i32 : BitVec 32 := 2560#32
  let v56 : BitVec 32 := Scalar.muli arg7 c2560_i32
  let v57 : Index := Scalar.indexCast v56
  let c0_31 : Index := 0#32
  ![v57.toNat, 0]
def k0_off2 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c2560_i32 : BitVec 32 := 2560#32
  let v56 : BitVec 32 := Scalar.muli arg7 c2560_i32
  let v59 : Index := Scalar.indexCast v56
  let c1_32 : Index := 1#32
  ![v59.toNat, 1]
def k0_off3 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c2560_i32 : BitVec 32 := 2560#32
  let v56 : BitVec 32 := Scalar.muli arg7 c2560_i32
  let v139 : Index := Scalar.indexCast v56
  let c0_43 : Index := 0#32
  ![v139.toNat, 0]
def k0_off4 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c2560_i32 : BitVec 32 := 2560#32
  let v56 : BitVec 32 := Scalar.muli arg7 c2560_i32
  let v141 : Index := Scalar.indexCast v56
  let c1_44 : Index := 1#32
  ![v141.toNat, 1]
def k0_off5 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c2560_i32 : BitVec 32 := 2560#32
  let v56 : BitVec 32 := Scalar.muli arg7 c2560_i32
  let v143 : Index := Scalar.indexCast v56
  let c2_45 : Index := 2#32
  ![v143.toNat, 2]
def k0_off6 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c2560_i32 : BitVec 32 := 2560#32
  let v56 : BitVec 32 := Scalar.muli arg7 c2560_i32
  let v145 : Index := Scalar.indexCast v56
  let c3_46 : Index := 3#32
  ![v145.toNat, 3]
def k0_off7 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c2560_i32 : BitVec 32 := 2560#32
  let v56 : BitVec 32 := Scalar.muli arg7 c2560_i32
  let v147 : Index := Scalar.indexCast v56
  let c0_47 : Index := 0#32
  ![v147.toNat, 0]
abbrev stage0_0 : Fin 1 → Memref sig .tc .vmem S1000x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1000x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5456x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5456x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5456x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5456x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5456x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F]
-- ==== ReferenceIdeal.lean ====
abbrev S3x512x512 : Shape := ⟨3, ![3, 512, 512]⟩
abbrev S1000x4 : Shape := ⟨2, ![1000, 4]⟩
abbrev S1000 : Shape := ⟨1, ![1000]⟩
abbrev S5456x2 : Shape := ⟨2, ![5456, 2]⟩
abbrev S2 : Shape := ⟨1, ![2]⟩
abbrev S5456x1 : Shape := ⟨2, ![5456, 1]⟩
abbrev S1000x1 : Shape := ⟨2, ![1000, 1]⟩
abbrev S1x1000 : Shape := ⟨2, ![1, 1000]⟩
abbrev S5456x1000 : Shape := ⟨2, ![5456, 1000]⟩
abbrev S5456x1000x1 : Shape := ⟨3, ![5456, 1000, 1]⟩
abbrev S5456x1000x4 : Shape := ⟨3, ![5456, 1000, 4]⟩
abbrev S_ : Shape := ⟨0, ![]⟩
abbrev S5456 : Shape := ⟨1, ![5456]⟩
abbrev S1 : Shape := ⟨1, ![1]⟩
abbrev S1x1 : Shape := ⟨2, ![1, 1]⟩
abbrev S5456x1x1 : Shape := ⟨3, ![5456, 1, 1]⟩
abbrev S1x1x1 : Shape := ⟨3, ![1, 1, 1]⟩
abbrev S5456x1x4 : Shape := ⟨3, ![5456, 1, 4]⟩
abbrev S5456x4 : Shape := ⟨2, ![5456, 4]⟩
abbrev S2x1 : Shape := ⟨2, ![2, 1]⟩

abbrev nBuf : Space → Nat
  | .hbm => 155
  | .vmem => 0
  | .smem => 0
  | _ => 0

abbrev hbmTy0_0 (i : Nat) : BufTy := match i % 128 with
  | 0 => ⟨S3x512x512, .f32⟩
  | 1 => ⟨S1000x4, .f32⟩
  | 2 => ⟨S1000, .i32⟩
  | 3 => ⟨S5456x2, .f32⟩
  | 4 => ⟨S5456x2, .f32⟩
  | 5 => ⟨S2, .i32⟩
  | 6 => ⟨S2, .i32⟩
  | 7 => ⟨S5456x1, .f32⟩
  | 8 => ⟨S5456x1, .f32⟩
  | 9 => ⟨S5456x1, .f32⟩
  | 10 => ⟨S5456x1, .f32⟩
  | 11 => ⟨S1000x1, .f32⟩
  | 12 => ⟨S1000, .f32⟩
  | 13 => ⟨S1x1000, .f32⟩
  | 14 => ⟨S5456x1000, .f32⟩
  | 15 => ⟨S5456x1000, .f32⟩
  | 16 => ⟨S5456x1000, .f32⟩
  | 17 => ⟨S1000x1, .f32⟩
  | 18 => ⟨S1000, .f32⟩
  | 19 => ⟨S1x1000, .f32⟩
  | 20 => ⟨S5456x1000, .f32⟩
  | 21 => ⟨S5456x1000, .f32⟩
  | 22 => ⟨S5456x1000, .f32⟩
  | 23 => ⟨S1000x1, .f32⟩
  | 24 => ⟨S1000, .f32⟩
  | 25 => ⟨S1x1000, .f32⟩
  | 26 => ⟨S5456x1000, .f32⟩
  | 27 => ⟨S5456x1000, .f32⟩
  | 28 => ⟨S5456x1000, .f32⟩
  | 29 => ⟨S1000x1, .f32⟩
  | 30 => ⟨S1000, .f32⟩
  | 31 => ⟨S1x1000, .f32⟩
  | 32 => ⟨S5456x1000, .f32⟩
  | 33 => ⟨S5456x1000, .f32⟩
  | 34 => ⟨S5456x1000, .f32⟩
  | 35 => ⟨S5456x1000x1, .f32⟩
  | 36 => ⟨S5456x1000x1, .f32⟩
  | 37 => ⟨S5456x1000x1, .f32⟩
  | 38 => ⟨S5456x1000x1, .f32⟩
  | 39 => ⟨S5456x1000x4, .f32⟩
  | 40 => ⟨S5456x1000x1, .f32⟩
  | 41 => ⟨S5456x1000, .f32⟩
  | 42 => ⟨S5456x1000x1, .f32⟩
  | 43 => ⟨S5456x1000, .f32⟩
  | 44 => ⟨S5456x1000, .f32⟩
  | 45 => ⟨S5456x1000x1, .f32⟩
  | 46 => ⟨S5456x1000, .f32⟩
  | 47 => ⟨S5456x1000x1, .f32⟩
  | 48 => ⟨S5456x1000, .f32⟩
  | 49 => ⟨S5456x1000, .f32⟩
  | 50 => ⟨S5456x1000, .f32⟩
  | 51 => ⟨S_, .f32⟩
  | 52 => ⟨S5456x1000, .f32⟩
  | 53 => ⟨S_, .f32⟩
  | 54 => ⟨S5456x1000, .f32⟩
  | 55 => ⟨S5456x1000, .i1⟩
  | 56 => ⟨S_, .f32⟩
  | 57 => ⟨S5456x1000, .f32⟩
  | 58 => ⟨S5456x1000, .f32⟩
  | 59 => ⟨S5456x1000, .i1⟩
  | 60 => ⟨S5456x1000, .f32⟩
  | 61 => ⟨S5456x1000, .i1⟩
  | 62 => ⟨S5456x1000, .i1⟩
  | 63 => ⟨S_, .f32⟩
  | 64 => ⟨S_, .f32⟩
  | 65 => ⟨S5456x1000, .f32⟩
  | 66 => ⟨S5456x1000, .f32⟩
  | 67 => ⟨S_, .f32⟩
  | 68 => ⟨S_, .f32⟩
  | 69 => ⟨S5456x1000, .f32⟩
  | 70 => ⟨S5456x1000, .f32⟩
  | 71 => ⟨S_, .f32⟩
  | 72 => ⟨S5456, .f32⟩
  | 73 => ⟨S5456x1000, .i32⟩
  | 74 => ⟨S_, .f32⟩
  | 75 => ⟨S_, .i32⟩
  | 76 => ⟨S5456, .f32⟩
  | 77 => ⟨S5456, .i32⟩
  | 78 => ⟨S_, .i32⟩
  | 79 => ⟨S5456, .i32⟩
  | 80 => ⟨S5456, .i1⟩
  | 81 => ⟨S_, .i32⟩
  | 82 => ⟨S5456, .i32⟩
  | 83 => ⟨S5456, .i32⟩
  | 84 => ⟨S5456, .i32⟩
  | 85 => ⟨S5456x1, .i32⟩
  | 86 => ⟨S1, .i32⟩
  | 87 => ⟨S_, .i32⟩
  | 88 => ⟨S5456x1, .i32⟩
  | 89 => ⟨S5456x1, .i1⟩
  | 90 => ⟨S1x1, .i32⟩
  | 91 => ⟨S5456x1, .i32⟩
  | 92 => ⟨S5456x1, .i1⟩
  | 93 => ⟨S5456x1, .i1⟩
  | 94 => ⟨S_, .i1⟩
  | 95 => ⟨S5456, .i1⟩
  | 96 => ⟨S5456, .i32⟩
  | 97 => ⟨S_, .i32⟩
  | 98 => ⟨S5456, .i32⟩
  | 99 => ⟨S5456, .i32⟩
  | 100 => ⟨S_, .f32⟩
  | 101 => ⟨S5456, .f32⟩
  | 102 => ⟨S5456, .i1⟩
  | 103 => ⟨S_, .i32⟩
  | 104 => ⟨S5456, .i32⟩
  | 105 => ⟨S5456, .i32⟩
  | 106 => ⟨S5456x1x1, .i32⟩
  | 107 => ⟨S_, .i32⟩
  | 108 => ⟨S5456x1x1, .i32⟩
  | 109 => ⟨S5456x1x1, .i1⟩
  | 110 => ⟨S_, .i32⟩
  | 111 => ⟨S5456x1x1, .i32⟩
  | 112 => ⟨S5456x1x1, .i32⟩
  | 113 => ⟨S5456x1x1, .i32⟩
  | 114 => ⟨S1, .i32⟩
  | 115 => ⟨S_, .i32⟩
  | 116 => ⟨S5456x1x1, .i32⟩
  | 117 => ⟨S5456x1x1, .i1⟩
  | 118 => ⟨S1x1x1, .i32⟩
  | 119 => ⟨S5456x1x1, .i32⟩
  | 120 => ⟨S5456x1x1, .i1⟩
  | 121 => ⟨S5456x1x1, .i1⟩
  | 122 => ⟨S_, .i1⟩
  | 123 => ⟨S5456x1, .i1⟩
  | 124 => ⟨S5456x1x4, .f32⟩
  | 125 => ⟨S5456x1x4, .i1⟩
  | 126 => ⟨S_, .f32⟩
  | 127 => ⟨S5456x1x4, .f32⟩
  | _ => ⟨S3x512x512, .f32⟩

abbrev hbmTy0_1 (i : Nat) : BufTy := match i % 128 with
  | 0 => ⟨S5456x1x4, .f32⟩
  | 1 => ⟨S5456x4, .f32⟩
  | 2 => ⟨S_, .i32⟩
  | 3 => ⟨S2, .i32⟩
  | 4 => ⟨S2, .i1⟩
  | 5 => ⟨S_, .i32⟩
  | 6 => ⟨S2, .i32⟩
  | 7 => ⟨S2, .i32⟩
  | 8 => ⟨S2, .i32⟩
  | 9 => ⟨S2x1, .i32⟩
  | 10 => ⟨S5456x2, .f32⟩
  | 11 => ⟨S_, .i32⟩
  | 12 => ⟨S2, .i32⟩
  | 13 => ⟨S2, .i1⟩
  | 14 => ⟨S_, .i32⟩
  | 15 => ⟨S2, .i32⟩
  | 16 => ⟨S2, .i32⟩
  | 17 => ⟨S2, .i32⟩
  | 18 => ⟨S2x1, .i32⟩
  | 19 => ⟨S5456x2, .f32⟩
  | 20 => ⟨S5456x2, .f32⟩
  | 21 => ⟨S5456x2, .f32⟩
  | 22 => ⟨S5456x2, .f32⟩
  | 23 => ⟨S5456x1, .f32⟩
  | 24 => ⟨S5456x1, .f32⟩
  | 25 => ⟨S5456x1, .f32⟩
  | 26 => ⟨S5456x1, .f32⟩
  | _ => ⟨S3x512x512, .f32⟩

abbrev hbmTy (i : Nat) : BufTy := match i / 128 with
  | 0 => hbmTy0_0 i
  | 1 => hbmTy0_1 i
  | _ => ⟨S3x512x512, .f32⟩

abbrev bufTy : (tb : Table) → Fin (tcTables nBuf tb) → BufTy
  | .hbm, ⟨i, _⟩ => hbmTy i
  | _, _ => ⟨S3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst : Ref sig .tc := ⟨.hbm, 51, rfl⟩
abbrev main_v44 : Ref sig .tc := ⟨.hbm, 52, rfl⟩
abbrev main_cst_1 : Ref sig .tc := ⟨.hbm, 53, rfl⟩
abbrev main_v45 : Ref sig .tc := ⟨.hbm, 54, rfl⟩
abbrev main_v46 : Ref sig .tc := ⟨.hbm, 55, rfl⟩
abbrev main_cst_2 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_3 : Ref sig .tc := ⟨.hbm, 63, rfl⟩
abbrev main_call0_v0 : Ref sig .tc := ⟨.hbm, 64, rfl⟩
abbrev main_call0_v1 : Ref sig .tc := ⟨.hbm, 65, rfl⟩
abbrev main_v53 : Ref sig .tc := ⟨.hbm, 66, rfl⟩
abbrev main_cst_4 : Ref sig .tc := ⟨.hbm, 67, rfl⟩
abbrev main_call1_v0 : Ref sig .tc := ⟨.hbm, 68, rfl⟩
abbrev main_call1_v1 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_call2_v0 : Ref sig .tc := ⟨.hbm, 73, rfl⟩
abbrev main_call2_cst : Ref sig .tc := ⟨.hbm, 74, rfl⟩
abbrev main_call2_c : Ref sig .tc := ⟨.hbm, 75, rfl⟩
abbrev main_call2_v1_0 : Ref sig .tc := ⟨.hbm, 76, rfl⟩
abbrev main_v56 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_c_4 : Ref sig .tc := ⟨.hbm, 97, rfl⟩
abbrev main_call3_v14 : Ref sig .tc := ⟨.hbm, 98, rfl⟩
abbrev main_v57 : Ref sig .tc := ⟨.hbm, 99, rfl⟩
abbrev main_cst_6 : Ref sig .tc := ⟨.hbm, 100, rfl⟩
abbrev main_v58 : Ref sig .tc := ⟨.hbm, 101, rfl⟩
abbrev main_v59 : Ref sig .tc := ⟨.hbm, 102, rfl⟩
abbrev main_c_7 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_call5_c : Ref sig .tc := ⟨.hbm, 107, rfl⟩
abbrev main_call5_v0 : Ref sig .tc := ⟨.hbm, 108, rfl⟩
abbrev main_call5_v1 : Ref sig .tc := ⟨.hbm, 109, rfl⟩
abbrev main_call5_c_0 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_c_1 : Ref sig .tc := ⟨.hbm, 114, rfl⟩
abbrev main_call5_c_2 : Ref sig .tc := ⟨.hbm, 115, rfl⟩
abbrev main_call5_v5 : Ref sig .tc := ⟨.hbm, 116, rfl⟩
abbrev main_call5_v6 : Ref sig .tc := ⟨.hbm, 117, rfl⟩
abbrev main_call5_v7 : Ref sig .tc := ⟨.hbm, 118, rfl⟩
abbrev main_call5_v8 : Ref sig .tc := ⟨.hbm, 119, rfl⟩
abbrev main_call5_v9 : Ref sig .tc := ⟨.hbm, 120, rfl⟩
abbrev main_call5_v10 : Ref sig .tc := ⟨.hbm, 121, rfl⟩
abbrev main_call5_c_3 : Ref sig .tc := ⟨.hbm, 122, rfl⟩
abbrev main_call5_v11 : Ref sig .tc := ⟨.hbm, 123, rfl⟩
abbrev main_call5_v12 : Ref sig .tc := ⟨.hbm, 124, rfl⟩
abbrev main_call5_v13 : Ref sig .tc := ⟨.hbm, 125, rfl⟩
abbrev main_call5_cst : Ref sig .tc := ⟨.hbm, 126, rfl⟩
abbrev main_call5_v14 : Ref sig .tc := ⟨.hbm, 127, rfl⟩
abbrev main_v63 : Ref sig .tc := ⟨.hbm, 128, rfl⟩
abbrev main_v64 : Ref sig .tc := ⟨.hbm, 129, rfl⟩
abbrev main_c_8 : Ref sig .tc := ⟨.hbm, 130, rfl⟩
abbrev main_v65 : Ref sig .tc := ⟨.hbm, 131, rfl⟩
abbrev main_v66 : Ref sig .tc := ⟨.hbm, 132, rfl⟩
abbrev main_c_9 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_c_10 : Ref sig .tc := ⟨.hbm, 139, rfl⟩
abbrev main_v72 : Ref sig .tc := ⟨.hbm, 140, rfl⟩
abbrev main_v73 : Ref sig .tc := ⟨.hbm, 141, rfl⟩
abbrev main_c_11 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩

abbrev nD : Nat := 1
abbrev τ : Topo := Topo.v7x

variable {F : FTy → Type} [FloatOps F]
-- ==== Proof.RefFrame.lean ====
module

public import proofs.«01_k».proof.Defs
public import proofs.«01_k».proof.Proof.Gen.ReferenceIdeal
public import Idealize.ShloMosaic.Lib.StableHlo.RunHlo
public import Idealize.ShloMosaic.Lib.Claim

@[expose] public section
noncomputable section
namespace Cert.Proof
open Idealize.ShloMosaic Idealize.SL.Sem
open Cert.ReferenceIdeal

set_option maxHeartbeats 4000000 in
set_option maxRecDepth 100000 in
/-- The reference runs, ends with its arguments unchanged, and has no semaphore. -/
theorem frameR : @Cert.quiescent_ReferenceIdeal Cert.ReferenceIdeal.Gen.facts := by
  intro m g _
  letI := Cert.ReferenceIdeal.Gen.facts
  hlo_run
  · exact fun _ => ⟨trivial, trivial, trivial, trivial, trivial⟩
  · exact Idealize.ShloMosaic.sem_eq_zero_of_no_sems (by decide) _

end Cert.Proof
end
-- ==== Proof.RefLine.lean ====
/-
  The reference as one straight line of host operations: the list is read off the printed `main`, and the run ends with
  every buffer at what the list leaves there.
-/
module
public import proofs.«01_k».proof.Defs
public import proofs.«01_k».proof.Proof.Gen.ReferenceIdeal
public import Idealize.ShloMosaic.Lib.StableHlo.RunHlo
public import Idealize.ShloMosaic.Lib.StableHlo.ReadAt
public import Idealize.ShloMosaic.Lib.Claim
@[expose] public section
noncomputable section
namespace Cert.Proof
open Idealize.ShloMosaic Idealize.SL.Sem
open Cert.ReferenceIdeal

/-- The reference's side conditions, for the definitions below. -/
local instance : Cert.ReferenceIdeal.Facts := Cert.ReferenceIdeal.Gen.facts

/-- The type of a straight line of operations with the proof that the reference's `main` is that line. -/
abbrev LineOf : Type := PSigma fun ops : List (HloOp τ sig (Elt Ideal)) =>
    ∀ d, StableHlo.IsSeq (Cert.ReferenceIdeal.main (F := Ideal) d) ops

/-- The pair, from its proof alone. -/
abbrev lineOf {ops : List (HloOp τ sig (Elt Ideal))} (h : ∀ d, StableHlo.IsSeq (Cert.ReferenceIdeal.main (F := Ideal) d) ops) :
    LineOf := ⟨ops, h⟩

set_option maxHeartbeats 4000000 in
set_option maxRecDepth 100000 in
/-- The operations of the reference, in order, with the proof that its `main` is that line. -/
def lineR : LineOf := by
  apply lineOf
  hlo_seq

set_option maxHeartbeats 4000000 in
set_option maxRecDepth 100000 in
/-- The run of the reference: every buffer ends at what the line leaves in it. -/
theorem runLineR (m : (ℓ : Loc nD τ sig) → Buf (Elt Ideal) ℓ) (g : Dev nD → PrngReg) :
    θ_run (Cert.ReferenceIdeal.defs (F := Ideal)) (onTc (τ := τ) (Cert.ReferenceIdeal.main (F := Ideal))) ⟨m, fun _ => 0, g⟩
      fun r => ∀ (d : Dev nD) (b : Ref sig .tc), r.2.mem ((d.tc : Thread nD τ).loc b)
        = StableHlo.after lineR.1 (StableHlo.launchContents m d) (Proc.devRef .tc b) :=
  StableHlo.run_hlo _ _ lineR.2 (by decide) (by decide) (by unfold lineR; dsimp only; simp)
    (by unfold lineR; dsimp only; intro _ h; (repeat (cases h with | head => rfl | tail _ h => ?_)); exact nomatch h) _ _
end Cert.Proof
end
-- ==== Proof.Spec.lean ====
/-
  The target assignment as plain arithmetic on extended reals: a point's four distances to the sides of a box, the area that
  competes for the point, the least such area, the first box that has it, and the three targets of the point.
-/
module
public import Idealize.ShloMosaic.PureOps.Ideal
public import Mathlib.Data.Finset.Fold
public import Mathlib.Data.Finset.Lattice.Fold
public import Mathlib.Data.EReal.Operations
@[expose] public section
noncomputable section
namespace Cert.Proof.Fcos
open Idealize.ShloMosaic

/-- The area that stands for "this box does not compete": the literal `1e8`. -/
abbrev cap : EReal := Ideal.ofBits .f32 1287568416#32

/-- A table of boxes: four coordinates each. -/
abbrev Boxes : Type := Fin 1000 → Fin 4 → EReal

/-- The distance of the point `(x, y)` to side `k` of box `b`: left, top, right, bottom. -/
def side (B : Boxes) (x y : EReal) (b : Fin 1000) (k : Fin 4) : EReal :=
  ![x - B b 0, y - B b 1, B b 2 - x, B b 3 - y] k

/-- The least of the four distances. -/
def near (B : Boxes) (x y : EReal) (b : Fin 1000) : EReal :=
  min (min (x - B b 0) (y - B b 1)) (min (B b 2 - x) (B b 3 - y))

/-- The greatest of the four distances. -/
def far (B : Boxes) (x y : EReal) (b : Fin 1000) : EReal :=
  max (max (x - B b 0) (y - B b 1)) (max (B b 2 - x) (B b 3 - y))

/-- The box's area as the distances give it. -/
def area (B : Boxes) (x y : EReal) (b : Fin 1000) : EReal :=
  (x - B b 0 + (B b 2 - x)) * (y - B b 1 + (B b 3 - y))

open Classical in
/-- The area with which box `b` competes for the point: its own when the point lies inside and the greatest distance lies in
    the point's range, `1e8` otherwise. -/
def cand (B : Boxes) (x y lo up : EReal) (b : Fin 1000) : EReal :=
  if 0 < near B x y b ∧ lo ≤ far B x y b ∧ far B x y b ≤ up then area B x y b else cap

/-- The least competing area. -/
def best (f : Fin 1000 → EReal) : EReal := Finset.univ.fold min ⊤ f

/-- `i` is the first index at which `f` takes its least value. -/
def IsPick (f : Fin 1000 → EReal) (i : Fin 1000) : Prop := f i = best f ∧ ∀ j, j < i → f j ≠ best f

theorem best_le (f : Fin 1000 → EReal) (j : Fin 1000) : best f ≤ f j := by
  unfold best
  rw [Finset.fold_min_le]
  exact .inr ⟨j, Finset.mem_univ j, le_rfl⟩

theorem le_best {f : Fin 1000 → EReal} {a : EReal} (h : ∀ j, a ≤ f j) : a ≤ best f := by
  unfold best
  rw [Finset.le_fold_min]
  exact ⟨le_top, fun j _ => h j⟩

/-- The least value is taken. -/
theorem exists_eq_best (f : Fin 1000 → EReal) : ∃ i, f i = best f := by
  obtain ⟨i, -, hi⟩ := Finset.exists_min_image Finset.univ f Finset.univ_nonempty
  exact ⟨i, le_antisymm (le_best fun j => hi j (Finset.mem_univ j)) (best_le f i)⟩

theorem exists_pick (f : Fin 1000 → EReal) : ∃ i, IsPick f i := by
  classical
  obtain ⟨i, hi, hmin⟩ := Finset.exists_min_image (Finset.univ.filter fun i => f i = best f) id
    (by obtain ⟨i, hi⟩ := exists_eq_best f; exact ⟨i, by simpa using hi⟩)
  refine ⟨i, by simpa using hi, fun j hj h => ?_⟩
  have := hmin j (by simpa using h)
  exact absurd hj (not_lt.mpr this)

/-- The first index of the least value. -/
def pick (f : Fin 1000 → EReal) : Fin 1000 := (exists_pick f).choose

theorem pick_spec (f : Fin 1000 → EReal) : IsPick f (pick f) := (exists_pick f).choose_spec

theorem IsPick.unique {f : Fin 1000 → EReal} {i j : Fin 1000} (hi : IsPick f i) (hj : IsPick f j) : i = j := by
  rcases lt_trichotomy i j with h | h | h
  · exact absurd hi.1 (hj.2 i h)
  · exact h
  · exact absurd hj.1 (hi.2 j h)

theorem IsPick.eq_pick {f : Fin 1000 → EReal} {i : Fin 1000} (hi : IsPick f i) : i = pick f := hi.unique (pick_spec f)

/-- When no box competes, the least area is `1e8` and the first box has it. -/
theorem pick_const {f : Fin 1000 → EReal} {a : EReal} (h : ∀ b, f b = a) : best f = a ∧ pick f = 0 := by
  have hb : best f = a := by
    obtain ⟨i, hi⟩ := exists_eq_best f
    rw [← hi, h i]
  refine ⟨hb, (IsPick.eq_pick ⟨by rw [h, hb], fun j hj => absurd hj (Fin.not_lt_zero j)⟩).symm⟩

open Classical in
/-- The class target: the chosen box's label, or `0` when no box competes. -/
def cls (f : Fin 1000 → EReal) (L : Fin 1000 → BitVec 32) : BitVec 32 := if best f = cap then 0#32 else L (pick f)

/-- The centerness of four distances. -/
def cnt (d : Fin 4 → EReal) : EReal :=
  Ideal.sqrt (Ideal.div (min (d 0) (d 1)) (max (d 0) (d 1)) * Ideal.div (min (d 2) (d 3)) (max (d 2) (d 3)))

end Cert.Proof.Fcos
end
-- ==== Proof.ArgMin.lean ====
/-
  The reference's index of the least value, read at a row: the order in which the pairs are folded does not matter, and the
  index that comes out is the first one of the least value.
-/
module
public import proofs.«01_k».proof.Proof.RefLine
public import proofs.«01_k».proof.Proof.Spec
public import Idealize.ShloMosaic.Lib.Pointwise
@[expose] public section
noncomputable section
namespace Cert.Proof
open Idealize.ShloMosaic Idealize.SL.Sem
open Cert.ReferenceIdeal
open Cert.Proof.Fcos

/-- Value first, then the index as a signed word. -/
def Before (a b : EReal × BitVec 32) : Prop := a.1 < b.1 ∨ (a.1 = b.1 ∧ a.2.toInt ≤ b.2.toInt)

theorem Before.refl (a : EReal × BitVec 32) : Before a a := .inr ⟨rfl, le_rfl⟩

theorem Before.trans {a b c : EReal × BitVec 32} (h : Before a b) (k : Before b c) : Before a c := by
  rcases h with h | ⟨h, h'⟩ <;> rcases k with k | ⟨k, k'⟩
  · exact .inl (h.trans k)
  · exact .inl (k ▸ h)
  · exact .inl (h ▸ k)
  · exact .inr ⟨h.trans k, h'.trans k'⟩

/-- A body that returns the earlier of its two pairs leaves, folded over a list, the earliest of them all. -/
theorem foldl_earliest (f : EReal × BitVec 32 → EReal × BitVec 32 → EReal × BitVec 32)
    (hf : ∀ a b, (f a b = a ∨ f a b = b) ∧ Before (f a b) a ∧ Before (f a b) b)
    (l : List (EReal × BitVec 32)) (a : EReal × BitVec 32) :
    (l.foldl f a = a ∨ l.foldl f a ∈ l) ∧ Before (l.foldl f a) a ∧ ∀ q ∈ l, Before (l.foldl f a) q := by
  induction l generalizing a with
  | nil => exact ⟨.inl rfl, .refl _, fun _ h => nomatch h⟩
  | cons q l ih =>
    obtain ⟨h1, h2, h3⟩ := ih (f a q)
    obtain ⟨g1, g2, g3⟩ := hf a q
    simp only [List.foldl_cons]
    refine ⟨?_, h2.trans g2, ?_⟩
    · rcases h1 with h1 | h1
      · rcases g1 with g1 | g1
        · exact .inl (h1.trans g1)
        · exact .inr (by rw [h1, g1]; exact List.mem_cons_self)
      · exact .inr (List.mem_cons_of_mem _ h1)
    · intro r hr
      rcases List.mem_cons.mp hr with rfl | hr
      · exact h2.trans g3
      · exact h3 r hr

theorem reducer_earlier (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨a1, a2⟩ := a
  obtain ⟨b1, b2⟩ := b
  have key : reducer_argmin_f32_i32 (F := Ideal) (a1, a2) (b1, b2)
      = (if a1 < b1 then a1 else b1, if a1 < b1 ∨ (a1 = b1 ∧ a2.toInt < b2.toInt) then a2 else b2) := by
    unfold reducer_argmin_f32_i32
    simp only [Ideal.cmpf_def, Ideal.cmp]
    by_cases h1 : a1 < b1 <;> by_cases h2 : a1 = b1 <;> by_cases h3 : a2.toInt < b2.toInt <;>
      simp [Scalar.select, IntOp.cmpi, IntOp.ori, IntOp.andi, BitVec.slt, h1, h2, h3]
  rw [key]
  unfold Before
  rcases lt_trichotomy a1 b1 with h | h | h
  · simp [h]
  · subst h
    by_cases h3 : a2.toInt < b2.toInt
    · simp [h3, h3.le]
    · simp [h3, not_lt.mp h3]
  · simp [h, h.not_gt, h.ne']

/-- The index of the least value at row `p`: the word of the first box that takes it. -/
theorem argmin_at (X : FVec Ideal S5456x1000 .f32) (Y : IVec S5456x1000 32) (x0 : FVec Ideal S_ .f32) (y0 : IVec S_ 32)
    (h : S5456x1000.ReducesTo [1] S5456) (hu : 0 < S_.numel) (p : Fin 5456) (f : Fin 1000 → EReal)
    (hX : ∀ b, X (ix2 p b) = f b) (hY : ∀ b : Fin 1000, Y (ix2 p b) = BitVec.ofNat 32 b.val)
    (hx : x0 (Shape.Idx.first hu) = (⊤ : EReal)) (hy : y0 (Shape.Idx.first hu) = 0#32) :
    (Host.argReduce (reducer_argmin_f32_i32 (F := Ideal)) X Y x0 y0 h hu (ix1 p)).2 = BitVec.ofNat 32 (pick f).val := by
  rw [Ideal.argReduce_eq_reduce2, Host.reduce2_eq_foldl_fiber, hx, hy]
  have hmem : ∀ q, q ∈ Host.argReduceFiber X Y h (ix1 p) ↔ ∃ b : Fin 1000, (f b, BitVec.ofNat 32 b.val) = q := by
    intro q
    unfold Host.argReduceFiber
    simp only [List.mem_map, List.mem_filter, List.mem_finRange, true_and, decide_eq_true_eq]
    constructor
    · rintro ⟨n, hn, rfl⟩
      obtain ⟨b, hb⟩ := (h.fiber_r2_a1 _ _).mp hn
      refine ⟨b, ?_⟩
      rw [← hb]
      exact (Prod.ext (hX b) (hY b)).symm
    · rintro ⟨b, rfl⟩
      refine ⟨S5456x1000.rowMajor (ix2 p b), ?_, ?_⟩
      · rw [Equiv.symm_apply_apply]
        exact (h.fiber_r2_a1 _ _).mpr ⟨b, rfl⟩
      · rw [Equiv.symm_apply_apply]
        exact Prod.ext (hX b) (hY b)
  obtain ⟨h1, h2, h3⟩ := foldl_earliest _ reducer_earlier (Host.argReduceFiber X Y h (ix1 p)) ((⊤ : EReal), 0#32)
  have hlt : ∀ b : Fin 1000, (BitVec.ofNat 32 b.val).toInt = (b.val : Int) := by
    intro b
    have := b.isLt
    rw [BitVec.toInt_ofNat', Int.bmod_def]
    omega
  rcases h1 with h1 | h1
  · have hall : ∀ b, f b = ⊤ := by
      intro b
      have := h3 _ ((hmem _).mpr ⟨b, rfl⟩)
      rw [h1] at this
      rcases this with this | this
      · exact absurd this not_top_lt
      · exact this.1.symm
    rw [h1, (pick_const hall).2]
    rfl
  · obtain ⟨i, hi⟩ := (hmem _).mp h1
    rw [← hi] at h3
    have hb : f i = best f := by
      refine le_antisymm (le_best fun j => ?_) (best_le f i)
      rcases h3 _ ((hmem _).mpr ⟨j, rfl⟩) with h | h
      · exact h.le
      · exact h.1.le
    have : IsPick f i := by
      refine ⟨hb, fun j hj he => ?_⟩
      rcases h3 _ ((hmem _).mpr ⟨j, rfl⟩) with h | ⟨-, h⟩
      · exact absurd (hb.trans he.symm) h.ne
      · have h' : (BitVec.ofNat 32 i.val).toInt ≤ (BitVec.ofNat 32 j.val).toInt := h
        rw [hlt, hlt] at h'
        have : j.val < i.val := hj
        omega
    rw [← hi, ← this.eq_pick]
end Cert.Proof
end
-- ==== Proof.Lits.lean ====
/-
  The literals of the two programs as extended reals, the four distances folded, and a word that goes through a float.
-/
module
public import proofs.«01_k».proof.Proof.Spec
public import Idealize.ShloMosaic.Lib.Pointwise
@[expose] public section
noncomputable section
namespace Cert.Proof.Fcos
open Idealize.ShloMosaic

theorem lit_top : Ideal.ofBits .f32 2139095040#32 = (⊤ : EReal) := by
  show Ideal.ieee 8 23 2139095040#32 = ⊤
  unfold Ideal.ieee
  simp

theorem lit_bot : Ideal.ofBits .f32 4286578688#32 = (⊥ : EReal) := by
  show Ideal.ieee 8 23 4286578688#32 = ⊥
  unfold Ideal.ieee
  simp

theorem lit_128 : Ideal.ofBits .f32 1124073472#32 = ((128 : ℝ) : EReal) := by
  show Ideal.ieee 8 23 1124073472#32 = _
  have e1 : (BitVec.extractLsb' 23 8 1124073472#32).toNat = 134 := by decide
  have e2 : (BitVec.extractLsb' 0 23 1124073472#32).toNat = 0 := by decide
  have e3 : (BitVec.extractLsb' 31 1 1124073472#32 == 1#1) = false := by decide
  unfold Ideal.ieee
  simp only [e1, e2, e3]
  norm_num

theorem fold_min_side (B : Boxes) (x y : EReal) (b : Fin 1000) :
    Finset.fold min (Ideal.ofBits .f32 2139095040#32) (fun k => side B x y b k) Finset.univ = near B x y b := by
  rw [lit_top]
  show min (x - B b 0) (min (y - B b 1) (min (B b 2 - x) (min (B b 3 - y) ⊤))) = _
  unfold near
  rw [min_top_right, min_assoc]

theorem fold_max_side (B : Boxes) (x y : EReal) (b : Fin 1000) :
    Finset.fold max (Ideal.ofBits .f32 4286578688#32) (fun k => side B x y b k) Finset.univ = far B x y b := by
  rw [lit_bot]
  show max (x - B b 0) (max (y - B b 1) (max (B b 2 - x) (max (B b 3 - y) ⊥))) = _
  unfold far
  rw [max_bot_right, max_assoc]

/-- A word made a float and read back is that word. -/
theorem fptosi_toInt (w : BitVec 32) : Ideal.fptosi 32 (((w.toInt : ℝ) : EReal)) = w := by
  unfold Ideal.fptosi
  have h1 := BitVec.toInt_lt (x := w)
  have h2 := BitVec.le_toInt (x := w)
  have : Ideal.toIntClamped (-(2 ^ (32 - 1) : Nat)) ((2 ^ (32 - 1) : Nat) - 1) (((w.toInt : ℝ) : EReal)) = w.toInt := by
    show max _ (min _ (if (0 : ℝ) ≤ (w.toInt : ℝ) then ⌊(w.toInt : ℝ)⌋ else ⌈(w.toInt : ℝ)⌉)) = w.toInt
    simp only [Int.floor_intCast, Int.ceil_intCast, ite_self]
    omega
  rw [this, BitVec.ofInt_toInt]
end Cert.Proof.Fcos
end
-- ==== Proof.RefA.lean ====
/-
  The reference's line read in windows, first half: the distances, the nearest and the farthest of them, the competing areas,
  their least and its index.
-/
module
public import proofs.«01_k».proof.Proof.RefLine
public import proofs.«01_k».proof.Proof.Spec
public import proofs.«01_k».proof.Proof.ArgMin
public import proofs.«01_k».proof.Proof.Lits
public import Idealize.ShloMosaic.Lib.Pointwise
@[expose] public section
noncomputable section
namespace Cert.Proof
open Idealize.ShloMosaic Idealize.SL.Sem
open Cert.ReferenceIdeal
open Cert.Proof.Fcos
local instance : Cert.ReferenceIdeal.Facts := Cert.ReferenceIdeal.Gen.facts
set_option maxHeartbeats 4000000
set_option maxRecDepth 100000

/-- The contents of every array of the reference. -/
abbrev Vals : Type := Valuation τ sig (Elt Ideal)

/-- The boxes, the points and the ranges as the arguments hold them. -/
abbrev boxesOf (V : Vals) : Boxes := fun b k => (V (Proc.devRef .tc main_arg1) : FVec Ideal S1000x4 .f32) (ix2 b k)
abbrev pxOf (V : Vals) (p : Fin 5456) : EReal := (V (Proc.devRef .tc main_arg3) : FVec Ideal S5456x2 .f32) (ix2 p 0)
abbrev pyOf (V : Vals) (p : Fin 5456) : EReal := (V (Proc.devRef .tc main_arg3) : FVec Ideal S5456x2 .f32) (ix2 p 1)
abbrev loOf (V : Vals) (p : Fin 5456) : EReal := (V (Proc.devRef .tc main_arg4) : FVec Ideal S5456x2 .f32) (ix2 p 0)
abbrev upOf (V : Vals) (p : Fin 5456) : EReal := (V (Proc.devRef .tc main_arg4) : FVec Ideal S5456x2 .f32) (ix2 p 1)

/-- The operations that make the distances. -/
abbrev opsA : List (HloOp τ sig (Elt Ideal)) := lineR.1.take 35
/-- The operations that make the areas and the two conditions. -/
abbrev opsB : List (HloOp τ sig (Elt Ideal)) := (lineR.1.drop 35).take 23
/-- The operations that put `1e8` where a box does not compete. -/
abbrev opsC : List (HloOp τ sig (Elt Ideal)) := (lineR.1.drop 58).take 8
/-- The operations that take the least area and its index. -/
abbrev opsD : List (HloOp τ sig (Elt Ideal)) := (lineR.1.drop 66).take 7

theorem readA_v32 (V : Vals) (p : Fin 5456) (b : Fin 1000) (k : Fin 4) :
    (StableHlo.after opsA V (Proc.devRef .tc main_v32) : FVec Ideal S5456x1000x4 .f32) (ix3 p b k)
      = side (boxesOf V) (pxOf V p) (pyOf V p) b k := by
  after_reads_at
  after_reads_at
  fin_cases k <;> rfl

theorem readA_v2 (V : Vals) (p : Fin 5456) :
    (StableHlo.after opsA V (Proc.devRef .tc main_v2) : FVec Ideal S5456x1 .f32) (ix2 p 0) = loOf V p := by
  after_reads_at

theorem readA_v3 (V : Vals) (p : Fin 5456) :
    (StableHlo.after opsA V (Proc.devRef .tc main_v3) : FVec Ideal S5456x1 .f32) (ix2 p 0) = upOf V p := by
  after_reads_at

/-! The two conditions on a bare array of distances. -/

theorem nearest_at (x : FVec Ideal S5456x1000x4 .f32) (p : Fin 5456) (b : Fin 1000) (B : Boxes) (X Y : EReal)
    (hr : S5456x1000x4.ReducesTo [2] S5456x1000) (hu : 0 < S_.numel)
    (h : ∀ b k, x (ix3 p b k) = side B X Y b k) :
    Host.reduce FloatOps.minimumf x (constant (F := Ideal) S_ .f32 2139095040#32) hr hu (ix2 p b) = near B X Y b := by
  pointwise
  simp only [h, fold_min_side]

theorem farthest_at (x : FVec Ideal S5456x1000x4 .f32) (p : Fin 5456) (b : Fin 1000) (B : Boxes) (X Y : EReal)
    (hr : S5456x1000x4.ReducesTo [2] S5456x1000) (hu : 0 < S_.numel)
    (h : ∀ b k, x (ix3 p b k) = side B X Y b k) :
    Host.reduce FloatOps.maximumf x (constant (F := Ideal) S_ .f32 4286578688#32) hr hu (ix2 p b) = far B X Y b := by
  pointwise
  simp only [h, fold_max_side]

theorem gt_at (R : FVec Ideal S5456x1000 .f32) (p : Fin 5456) (b : Fin 1000)
    (hb : S_.BroadcastsInDim S5456x1000 (![] : Fin 0 → Fin S5456x1000.rank)) (n : EReal) (h : R (ix2 p b) = n) :
    cmpf .ogt R (broadcastInDim S5456x1000 ![] hb (constant (F := Ideal) S_ .f32 0#32)) (ix2 p b)
      = BitVec.ofBool (decide (0 < n)) := by
  pointwise
  rw [h]

theorem inside_at (x : FVec Ideal S5456x1000x4 .f32) (p : Fin 5456) (b : Fin 1000) (B : Boxes) (X Y : EReal)
    (hr : S5456x1000x4.ReducesTo [2] S5456x1000) (hu : 0 < S_.numel)
    (hb : S_.BroadcastsInDim S5456x1000 (![] : Fin 0 → Fin S5456x1000.rank))
    (h : ∀ b k, x (ix3 p b k) = side B X Y b k) :
    cmpf .ogt (Host.reduce FloatOps.minimumf x (constant (F := Ideal) S_ .f32 2139095040#32) hr hu)
        (broadcastInDim S5456x1000 ![] hb (constant (F := Ideal) S_ .f32 0#32)) (ix2 p b)
      = BitVec.ofBool (decide (0 < near B X Y b)) :=
  gt_at _ p b hb _ (nearest_at x p b B X Y hr hu h)

theorem between_at (R : FVec Ideal S5456x1000 .f32) (l u : FVec Ideal S5456x1 .f32) (p : Fin 5456) (b : Fin 1000) (n lo up : EReal)
    (hb : S5456x1.BroadcastsInDim S5456x1000 (![0, 1] : Fin 2 → Fin S5456x1000.rank))
    (h : R (ix2 p b) = n) (hl : l (ix2 p 0) = lo) (hup : u (ix2 p 0) = up) :
    andi (cmpf .ole (broadcastInDim S5456x1000 ![0, 1] hb l) R)
        (cmpf .ole R (broadcastInDim S5456x1000 ![0, 1] hb u)) (ix2 p b)
      = IntOp.andi (BitVec.ofBool (decide (lo ≤ n))) (BitVec.ofBool (decide (n ≤ up))) := by
  pointwise
  rw [h, hl, hup]

theorem ranged_at (x : FVec Ideal S5456x1000x4 .f32) (l u : FVec Ideal S5456x1 .f32) (p : Fin 5456) (b : Fin 1000) (B : Boxes)
    (X Y lo up : EReal) (hr : S5456x1000x4.ReducesTo [2] S5456x1000) (hu : 0 < S_.numel)
    (hb : S5456x1.BroadcastsInDim S5456x1000 (![0, 1] : Fin 2 → Fin S5456x1000.rank))
    (h : ∀ b k, x (ix3 p b k) = side B X Y b k) (hl : l (ix2 p 0) = lo) (hup : u (ix2 p 0) = up) :
    andi (cmpf .ole (broadcastInDim S5456x1000 ![0, 1] hb l)
          (Host.reduce FloatOps.maximumf x (constant (F := Ideal) S_ .f32 4286578688#32) hr hu))
        (cmpf .ole (Host.reduce FloatOps.maximumf x (constant (F := Ideal) S_ .f32 4286578688#32) hr hu)
          (broadcastInDim S5456x1000 ![0, 1] hb u)) (ix2 p b)
      = IntOp.andi (BitVec.ofBool (decide (lo ≤ far B X Y b))) (BitVec.ofBool (decide (far B X Y b ≤ up))) :=
  between_at _ l u p b _ lo up hb (farthest_at x p b B X Y hr hu h) hl hup

theorem readB_v43 (W : Vals) (p : Fin 5456) (b : Fin 1000) (B : Boxes) (x y : EReal)
    (h : ∀ b k, (W (Proc.devRef .tc main_v32) : FVec Ideal S5456x1000x4 .f32) (ix3 p b k) = side B x y b k) :
    (StableHlo.after opsB W (Proc.devRef .tc main_v43) : FVec Ideal S5456x1000 .f32) (ix2 p b) = area B x y b := by
  after_reads_at
  simp only [h]
  rfl

theorem readB_v46 (W : Vals) (p : Fin 5456) (b : Fin 1000) (B : Boxes) (x y : EReal)
    (h : ∀ b k, (W (Proc.devRef .tc main_v32) : FVec Ideal S5456x1000x4 .f32) (ix3 p b k) = side B x y b k) :
    (StableHlo.after opsB W (Proc.devRef .tc main_v46) : IVec S5456x1000 1) (ix2 p b)
      = (BitVec.ofBool (decide (0 < near B x y b)) : BitVec 1) := by
  after_reads_simp
  exact inside_at _ p b B x y _ _ _ h

theorem readB_v52 (W : Vals) (p : Fin 5456) (b : Fin 1000) (B : Boxes) (x y lo up : EReal)
    (h : ∀ b k, (W (Proc.devRef .tc main_v32) : FVec Ideal S5456x1000x4 .f32) (ix3 p b k) = side B x y b k)
    (hlo : (W (Proc.devRef .tc main_v2) : FVec Ideal S5456x1 .f32) (ix2 p 0) = lo)
    (hup : (W (Proc.devRef .tc main_v3) : FVec Ideal S5456x1 .f32) (ix2 p 0) = up) :
    (StableHlo.after opsB W (Proc.devRef .tc main_v52) : IVec S5456x1000 1) (ix2 p b)
      = (IntOp.andi (BitVec.ofBool (decide (lo ≤ far B x y b))) (BitVec.ofBool (decide (far B x y b ≤ up))) : BitVec 1) := by
  after_reads_simp
  exact ranged_at _ _ _ p b B x y lo up _ _ _ h hlo hup

theorem readC_v54 (W : Vals) (p : Fin 5456) (b : Fin 1000) (B : Boxes) (x y lo up : EReal)
    (h43 : (W (Proc.devRef .tc main_v43) : FVec Ideal S5456x1000 .f32) (ix2 p b) = area B x y b)
    (h46 : (W (Proc.devRef .tc main_v46) : IVec S5456x1000 1) (ix2 p b) = (BitVec.ofBool (decide (0 < near B x y b)) : BitVec 1))
    (h52 : (W (Proc.devRef .tc main_v52) : IVec S5456x1000 1) (ix2 p b)
      = (IntOp.andi (BitVec.ofBool (decide (lo ≤ far B x y b))) (BitVec.ofBool (decide (far B x y b ≤ up))) : BitVec 1)) :
    (StableHlo.after opsC W (Proc.devRef .tc main_v54) : FVec Ideal S5456x1000 .f32) (ix2 p b) = cand B x y lo up b := by
  after_reads_at
  simp only [h43, h46, h52]
  unfold cand
  by_cases c1 : 0 < near B x y b <;> by_cases c2 : lo ≤ far B x y b <;> by_cases c3 : far B x y b ≤ up <;>
    simp [c1, c2, c3, Scalar.select, IntOp.andi, constant]

theorem readD_v55 (W : Vals) (p : Fin 5456) (f : Fin 1000 → EReal)
    (h : ∀ b, (W (Proc.devRef .tc main_v54) : FVec Ideal S5456x1000 .f32) (ix2 p b) = f b) :
    (StableHlo.after opsD W (Proc.devRef .tc main_v55) : FVec Ideal S5456 .f32) (ix1 p) = best f := by
  after_reads_at
  simp only [h, lit_top]
  rfl

theorem readD_v56 (W : Vals) (p : Fin 5456) (f : Fin 1000 → EReal)
    (h : ∀ b, (W (Proc.devRef .tc main_v54) : FVec Ideal S5456x1000 .f32) (ix2 p b) = f b) :
    (StableHlo.after opsD W (Proc.devRef .tc main_v56) : IVec S5456 32) (ix1 p) = (BitVec.ofNat 32 (pick f).val : BitVec 32) := by
  after_reads_at
  exact argmin_at _ _ _ _ _ _ p f h (fun _ => rfl) lit_top rfl

/-! What a window does not write it keeps. -/

theorem keepB_v32 (W : Vals) : StableHlo.after opsB W (Proc.devRef .tc main_v32) = W (Proc.devRef .tc main_v32) := by
  after_reads_simp
theorem keepC_v32 (W : Vals) : StableHlo.after opsC W (Proc.devRef .tc main_v32) = W (Proc.devRef .tc main_v32) := by
  after_reads_simp
theorem keepD_v32 (W : Vals) : StableHlo.after opsD W (Proc.devRef .tc main_v32) = W (Proc.devRef .tc main_v32) := by
  after_reads_simp
theorem keepA_arg2 (W : Vals) : StableHlo.after opsA W (Proc.devRef .tc main_arg2) = W (Proc.devRef .tc main_arg2) := by
  after_reads_simp
theorem keepB_arg2 (W : Vals) : StableHlo.after opsB W (Proc.devRef .tc main_arg2) = W (Proc.devRef .tc main_arg2) := by
  after_reads_simp
theorem keepC_arg2 (W : Vals) : StableHlo.after opsC W (Proc.devRef .tc main_arg2) = W (Proc.devRef .tc main_arg2) := by
  after_reads_simp
theorem keepD_arg2 (W : Vals) : StableHlo.after opsD W (Proc.devRef .tc main_arg2) = W (Proc.devRef .tc main_arg2) := by
  after_reads_simp
theorem readA_c (V : Vals) (q : Fin 2) :
    (StableHlo.after opsA V (Proc.devRef .tc main_c) : IVec S2 32) (ix1 q) = (BitVec.ofNat 32 (![0, 2] q) : BitVec 32) := by
  after_reads_simp
  fin_cases q <;> rfl
theorem readA_c_0 (V : Vals) (q : Fin 2) :
    (StableHlo.after opsA V (Proc.devRef .tc main_c_0) : IVec S2 32) (ix1 q) = (BitVec.ofNat 32 (![1, 3] q) : BitVec 32) := by
  after_reads_simp
  fin_cases q <;> rfl
theorem keepB_c (W : Vals) : StableHlo.after opsB W (Proc.devRef .tc main_c) = W (Proc.devRef .tc main_c) := by
  after_reads_simp
theorem keepC_c (W : Vals) : StableHlo.after opsC W (Proc.devRef .tc main_c) = W (Proc.devRef .tc main_c) := by
  after_reads_simp
theorem keepD_c (W : Vals) : StableHlo.after opsD W (Proc.devRef .tc main_c) = W (Proc.devRef .tc main_c) := by
  after_reads_simp
theorem keepB_c_0 (W : Vals) : StableHlo.after opsB W (Proc.devRef .tc main_c_0) = W (Proc.devRef .tc main_c_0) := by
  after_reads_simp
theorem keepC_c_0 (W : Vals) : StableHlo.after opsC W (Proc.devRef .tc main_c_0) = W (Proc.devRef .tc main_c_0) := by
  after_reads_simp
theorem keepD_c_0 (W : Vals) : StableHlo.after opsD W (Proc.devRef .tc main_c_0) = W (Proc.devRef .tc main_c_0) := by
  after_reads_simp
end Cert.Proof
end
-- ==== Proof.Gathers.lean ====
/-
  The reference's three gathers read at an index: a label by box, a distance by point and box, a column of the distances.
-/
module
public import proofs.«01_k».proof.Proof.RefLine
public import Idealize.ShloMosaic.Lib.Pointwise
@[expose] public section
noncomputable section
namespace Cert.Proof
open Idealize.ShloMosaic Idealize.SL.Sem
open Cert.ReferenceIdeal
local instance : Cert.ReferenceIdeal.Facts := Cert.ReferenceIdeal.Gen.facts

/-- A label by box number. -/
theorem gather_label {α : Type} (x : S1000.Idx → α) (idx : IVec S5456x1 32) (p : Fin 5456) (n : Fin 1000)
    (h : idx (ix2 p 0) = BitVec.ofNat 32 n.val) :
    Host.gather gather_S1000_S5456x1_S5456_n_0_n_n_0_1_1 x idx (ix1 p) = x (ix1 n) := by
  unfold Host.gather
  congr 1
  funext a
  apply Fin.ext
  match a with
  | ⟨0, _⟩ =>
    show min (idx _).toInt.toNat 999 + 0 + 0 = n.val
    have e : ∀ i : S5456x1.Idx, i = ix2 p 0 → idx i = BitVec.ofNat 32 n.val := fun i hi => hi ▸ h
    rw [e _ (by funext a; apply Fin.ext; match a with | ⟨0, _⟩ => rfl | ⟨1, _⟩ => rfl)]
    have := n.isLt
    rw [BitVec.toInt_ofNat', Int.bmod_def]
    omega

/-- The distances of point `p` to box `n`, for the box number the index array holds at `p`. -/
theorem gather_sides {α : Type} (x : S5456x1000x4.Idx → α) (idx : IVec S5456x1x1 32) (p : Fin 5456) (k : Fin 4) (n : Fin 1000)
    (h : idx (ix3 p 0 0) = BitVec.ofNat 32 n.val) :
    Host.gather gather_S5456x1000x4_S5456x1x1_S5456x1x4_2_1_0_0_1_2_114 x idx (ix3 p 0 k) = x (ix3 p n k) := by
  unfold Host.gather
  congr 1
  funext a
  apply Fin.ext
  match a with
  | ⟨0, _⟩ => show 0 + p.val + 0 = p.val; omega
  | ⟨1, _⟩ =>
    show min (idx _).toInt.toNat 999 + 0 + 0 = n.val
    have e : ∀ i : S5456x1x1.Idx, i = ix3 p 0 0 → idx i = BitVec.ofNat 32 n.val := fun i hi => hi ▸ h
    rw [e _ (by funext a; apply Fin.ext; match a with | ⟨0, _⟩ => rfl | ⟨1, _⟩ => rfl | ⟨2, _⟩ => rfl)]
    have := n.isLt
    rw [BitVec.toInt_ofNat', Int.bmod_def]
    omega
  | ⟨2, _⟩ => show 0 + 0 + k.val = k.val; omega

/-- Column `n` of the distances, for the column number the index array holds at `q`. -/
theorem gather_column {α : Type} (x : S5456x4.Idx → α) (idx : IVec S2x1 32) (p : Fin 5456) (q : Fin 2) (n : Fin 4)
    (h : idx (ix2 q 0) = BitVec.ofNat 32 n.val) :
    Host.gather gather_S5456x4_S2x1_S5456x2_0_1_n_n_1_1_54561 x idx (ix2 p q) = x (ix2 p n) := by
  unfold Host.gather
  congr 1
  funext a
  apply Fin.ext
  match a with
  | ⟨0, _⟩ => show 0 + 0 + p.val = p.val; omega
  | ⟨1, _⟩ =>
    show min (idx _).toInt.toNat 3 + 0 + 0 = n.val
    have e : ∀ i : S2x1.Idx, i = ix2 q 0 → idx i = BitVec.ofNat 32 n.val := fun i hi => hi ▸ h
    rw [e _ (by funext a; apply Fin.ext; match a with | ⟨0, _⟩ => rfl | ⟨1, _⟩ => rfl)]
    have := n.isLt
    rw [BitVec.toInt_ofNat', Int.bmod_def]
    omega
end Cert.Proof
end
-- ==== Proof.RefB.lean ====
/-
  The reference's line read in windows, second half: the label, the distances to the chosen box and the centerness; and the
  three results as the target assignment.
-/
module
public import proofs.«01_k».proof.Proof.RefA
public import proofs.«01_k».proof.Proof.Gathers
@[expose] public section
noncomputable section
namespace Cert.Proof
open Idealize.ShloMosaic Idealize.SL.Sem
open Cert.ReferenceIdeal
open Cert.Proof.Fcos
local instance : Cert.ReferenceIdeal.Facts := Cert.ReferenceIdeal.Gen.facts
set_option maxHeartbeats 4000000
set_option maxRecDepth 100000

/-- The operations that take the label. -/
abbrev opsE : List (HloOp τ sig (Elt Ideal)) := (lineR.1.drop 73).take 28
/-- The operations that take the distances to the chosen box. -/
abbrev opsF : List (HloOp τ sig (Elt Ideal)) := (lineR.1.drop 101).take 24
/-- The operations that make the centerness. -/
abbrev opsG : List (HloOp τ sig (Elt Ideal)) := lineR.1.drop 125

/-! A number below 1000 as an index: it is not negative, so it is not shifted, and it is in bounds. -/

theorem word_toInt (n : Nat) (h : n < 1000) : (BitVec.ofNat 32 n).toInt = (n : Int) := by
  rw [BitVec.toInt_ofNat', Int.bmod_def]
  omega

theorem word_unshifted (n m : Nat) (h : n < 1000) :
    Scalar.select (IntOp.cmpi .slt (BitVec.ofNat 32 n) 0#32) (IntOp.addi (BitVec.ofNat 32 n) (BitVec.ofNat 32 m)) (BitVec.ofNat 32 n)
      = BitVec.ofNat 32 n := by
  have e : IntOp.cmpi .slt (BitVec.ofNat 32 n) 0#32 = 0#1 := by
    have : ¬ ((n : Int) < 0) := by omega
    simp [IntOp.cmpi, BitVec.slt, word_toInt n h, this]
  rw [e]
  rfl

theorem word_in_bounds (n : Nat) (h : n < 1000) :
    IntOp.andi (IntOp.cmpi .sge (BitVec.ofNat 32 n) 0#32) (IntOp.cmpi .sle (BitVec.ofNat 32 n) 999#32) = 1#1 := by
  have e : (999#32 : BitVec 32).toInt = 999 := rfl
  have e1 : IntOp.cmpi .sge (BitVec.ofNat 32 n) 0#32 = 1#1 := by
    simp [IntOp.cmpi, BitVec.sle, word_toInt n h]
  have e2 : IntOp.cmpi .sle (BitVec.ofNat 32 n) 999#32 = 1#1 := by
    simp only [IntOp.cmpi, BitVec.sle, word_toInt n h, e]
    have : (n : Int) ≤ 999 := by omega
    simp [this]
  rw [e1, e2]
  rfl

theorem fold_ones : Finset.fold IntOp.andi (1#1) (fun _ : Fin 1 => (1#1 : BitVec 1)) Finset.univ = 1#1 := rfl

theorem readE_v61 (W : Vals) (p : Fin 5456) (f : Fin 1000 → EReal) (L : Fin 1000 → BitVec 32)
    (h55 : (W (Proc.devRef .tc main_v55) : FVec Ideal S5456 .f32) (ix1 p) = best f)
    (h56 : (W (Proc.devRef .tc main_v56) : IVec S5456 32) (ix1 p) = (BitVec.ofNat 32 (pick f).val : BitVec 32))
    (h2 : ∀ b, (W (Proc.devRef .tc main_arg2) : IVec S1000 32) (ix1 b) = L b) :
    (StableHlo.after opsE W (Proc.devRef .tc main_v61) : IVec S5456 32) (ix1 p) = cls f L := by
  after_reads_at
  rw [gather_label _ _ p (pick f) (by pointwise; rw [h56]; exact word_unshifted _ 1000 (pick f).isLt)]
  simp only [h55, h56, h2, word_unshifted _ 1000 (pick f).isLt, word_in_bounds _ (pick f).isLt, fold_ones]
  unfold cls
  rfl

theorem readF_v64 (W : Vals) (p : Fin 5456) (k : Fin 4) (n : Fin 1000) (B : Boxes) (x y : EReal)
    (h32 : ∀ b k, (W (Proc.devRef .tc main_v32) : FVec Ideal S5456x1000x4 .f32) (ix3 p b k) = side B x y b k)
    (h56 : (W (Proc.devRef .tc main_v56) : IVec S5456 32) (ix1 p) = (BitVec.ofNat 32 n.val : BitVec 32)) :
    (StableHlo.after opsF W (Proc.devRef .tc main_v64) : FVec Ideal S5456x4 .f32) (ix2 p k) = side B x y n k := by
  after_reads_at
  rw [gather_sides _ _ p k n (by pointwise; rw [h56]; exact word_unshifted _ 1000 n.isLt)]
  simp only [h32, h56, word_unshifted _ 1000 n.isLt, word_in_bounds _ n.isLt, fold_ones]
  rfl

theorem readG_v85 (W : Vals) (p : Fin 5456) (d : Fin 4 → EReal)
    (h64 : ∀ k, (W (Proc.devRef .tc main_v64) : FVec Ideal S5456x4 .f32) (ix2 p k) = d k)
    (hc : ∀ q : Fin 2, (W (Proc.devRef .tc main_c) : IVec S2 32) (ix1 q) = (BitVec.ofNat 32 (![0, 2] q) : BitVec 32))
    (hc0 : ∀ q : Fin 2, (W (Proc.devRef .tc main_c_0) : IVec S2 32) (ix1 q) = (BitVec.ofNat 32 (![1, 3] q) : BitVec 32)) :
    (StableHlo.after opsG W (Proc.devRef .tc main_v85) : FVec Ideal S5456x1 .f32) (ix2 p 0) = cnt d := by
  after_reads_at
  rw [gather_column _ _ p 0 0 (by pointwise; rw [hc]; exact word_unshifted 0 4 (by decide)),
    gather_column _ _ p 0 1 (by pointwise; rw [hc0]; exact word_unshifted 1 4 (by decide)),
    gather_column _ _ p 1 2 (by pointwise; rw [hc]; exact word_unshifted 2 4 (by decide)),
    gather_column _ _ p 1 3 (by pointwise; rw [hc0]; exact word_unshifted 3 4 (by decide))]
  simp only [h64]
  rfl

theorem keepE_v32 (W : Vals) : StableHlo.after opsE W (Proc.devRef .tc main_v32) = W (Proc.devRef .tc main_v32) := by
  after_reads_simp
theorem keepE_v56 (W : Vals) : StableHlo.after opsE W (Proc.devRef .tc main_v56) = W (Proc.devRef .tc main_v56) := by
  after_reads_simp
theorem keepE_c (W : Vals) : StableHlo.after opsE W (Proc.devRef .tc main_c) = W (Proc.devRef .tc main_c) := by
  after_reads_simp
theorem keepE_c_0 (W : Vals) : StableHlo.after opsE W (Proc.devRef .tc main_c_0) = W (Proc.devRef .tc main_c_0) := by
  after_reads_simp
theorem keepF_c (W : Vals) : StableHlo.after opsF W (Proc.devRef .tc main_c) = W (Proc.devRef .tc main_c) := by
  after_reads_simp
theorem keepF_c_0 (W : Vals) : StableHlo.after opsF W (Proc.devRef .tc main_c_0) = W (Proc.devRef .tc main_c_0) := by
  after_reads_simp
theorem keepF_v61 (W : Vals) : StableHlo.after opsF W (Proc.devRef .tc main_v61) = W (Proc.devRef .tc main_v61) := by
  after_reads_simp
theorem keepG_v61 (W : Vals) : StableHlo.after opsG W (Proc.devRef .tc main_v61) = W (Proc.devRef .tc main_v61) := by
  after_reads_simp
theorem keepG_v64 (W : Vals) : StableHlo.after opsG W (Proc.devRef .tc main_v64) = W (Proc.devRef .tc main_v64) := by
  after_reads_simp

/-! The windows one after another. -/

theorem after_then (l₁ l₂ : List (HloOp τ sig (Elt Ideal))) (V : Vals) :
    StableHlo.after (l₁ ++ l₂) V = StableHlo.after l₂ (StableHlo.after l₁ V) := StableHlo.after_append l₁ l₂ V

theorem line_windows : lineR.1 = opsA ++ (opsB ++ (opsC ++ (opsD ++ (opsE ++ (opsF ++ opsG))))) := by
  have e : ∀ a b, (lineR.1.drop a).take b ++ lineR.1.drop (a + b) = lineR.1.drop a := by
    intro a b
    rw [← List.drop_drop, List.take_append_drop]
  unfold opsA opsB opsC opsD opsE opsF opsG
  rw [e 101 24, e 73 28, e 66 7, e 58 8, e 35 23, List.take_append_drop]

/-- The contents before the last windows. -/
abbrev atA (V : Vals) : Vals := StableHlo.after opsA V
abbrev atB (V : Vals) : Vals := StableHlo.after opsB (atA V)
abbrev atC (V : Vals) : Vals := StableHlo.after opsC (atB V)
abbrev atD (V : Vals) : Vals := StableHlo.after opsD (atC V)
abbrev atE (V : Vals) : Vals := StableHlo.after opsE (atD V)
abbrev atF (V : Vals) : Vals := StableHlo.after opsF (atE V)
abbrev atG (V : Vals) : Vals := StableHlo.after opsG (atF V)

theorem after_line (V : Vals) : StableHlo.after lineR.1 V = atG V := by
  rw [line_windows]
  simp only [after_then]

/-- The areas that compete for point `p`. -/
abbrev candOf (V : Vals) (p : Fin 5456) : Fin 1000 → EReal := cand (boxesOf V) (pxOf V p) (pyOf V p) (loOf V p) (upOf V p)
/-- The labels as the argument holds them. -/
abbrev labelsOf (V : Vals) : Fin 1000 → BitVec 32 := fun b => (V (Proc.devRef .tc main_arg2) : IVec S1000 32) (ix1 b)

theorem atC_v54 (V : Vals) (p : Fin 5456) (b : Fin 1000) :
    (atC V (Proc.devRef .tc main_v54) : FVec Ideal S5456x1000 .f32) (ix2 p b) = candOf V p b :=
  readC_v54 _ p b _ _ _ _ _ (readB_v43 _ p b _ _ _ (readA_v32 V p)) (readB_v46 _ p b _ _ _ (readA_v32 V p))
    (readB_v52 _ p b _ _ _ _ _ (readA_v32 V p) (readA_v2 V p) (readA_v3 V p))

theorem atD_v56 (V : Vals) (p : Fin 5456) :
    (atD V (Proc.devRef .tc main_v56) : IVec S5456 32) (ix1 p) = (BitVec.ofNat 32 (pick (candOf V p)).val : BitVec 32) :=
  readD_v56 _ p _ (atC_v54 V p)

theorem atE_v32 (V : Vals) (p : Fin 5456) (b : Fin 1000) (k : Fin 4) :
    (atE V (Proc.devRef .tc main_v32) : FVec Ideal S5456x1000x4 .f32) (ix3 p b k)
      = side (boxesOf V) (pxOf V p) (pyOf V p) b k := by
  unfold atE atD atC atB atA
  rw [keepE_v32, keepD_v32, keepC_v32, keepB_v32]
  exact readA_v32 V p b k

/-- The class targets. -/
theorem ref_cls (V : Vals) (p : Fin 5456) :
    (StableHlo.after lineR.1 V (Proc.devRef .tc main_v61) : IVec S5456 32) (ix1 p) = cls (candOf V p) (labelsOf V) := by
  rw [after_line]
  unfold atG atF
  rw [keepG_v61, keepF_v61]
  refine readE_v61 _ p _ _ (readD_v55 _ p _ (atC_v54 V p)) (atD_v56 V p) fun b => ?_
  unfold atD atC atB atA
  rw [keepD_arg2, keepC_arg2, keepB_arg2, keepA_arg2]

/-- The regression targets. -/
theorem ref_reg (V : Vals) (p : Fin 5456) (k : Fin 4) :
    (StableHlo.after lineR.1 V (Proc.devRef .tc main_v64) : FVec Ideal S5456x4 .f32) (ix2 p k)
      = side (boxesOf V) (pxOf V p) (pyOf V p) (pick (candOf V p)) k := by
  rw [after_line]
  unfold atG atF
  rw [keepG_v64]
  refine readF_v64 _ p k _ _ _ _ (atE_v32 V p) ?_
  unfold atE
  rw [keepE_v56]
  exact atD_v56 V p

/-- The centerness targets. -/
theorem ref_cnt (V : Vals) (p : Fin 5456) :
    (StableHlo.after lineR.1 V (Proc.devRef .tc main_v85) : FVec Ideal S5456x1 .f32) (ix2 p 0)
      = cnt (side (boxesOf V) (pxOf V p) (pyOf V p) (pick (candOf V p))) := by
  rw [after_line]
  unfold atG
  refine readG_v85 _ p _ (fun k => ?_) (fun q => ?_) (fun q => ?_)
  · unfold atF
    refine readF_v64 _ p k _ _ _ _ (atE_v32 V p) ?_
    unfold atE
    rw [keepE_v56]
    exact atD_v56 V p
  · unfold atF atE atD atC atB atA
    rw [keepF_c, keepE_c, keepD_c, keepC_c, keepB_c]
    exact readA_c V q
  · unfold atF atE atD atC atB atA
    rw [keepF_c_0, keepE_c_0, keepD_c_0, keepC_c_0, keepB_c_0]
    exact readA_c_0 V q
end Cert.Proof
end
-- ==== Proof.KerPay.lean ====
/-
  The kernel's payloads read at an index: the competing area of a point and a box, the least of them, the first box that has
  it, the box's data picked by a one-hot sum, and the targets.
-/
module
public import proofs.«01_k».proof.Defs
public import proofs.«01_k».proof.Proof.Gen.KernelIdeal.Frame
public import proofs.«01_k».proof.Proof.Spec
public import proofs.«01_k».proof.Proof.Lits
public import Idealize.ShloMosaic.Lib.Pipeline.ValueKit
public import Idealize.ShloMosaic.Lib.Pointwise
@[expose] public section
set_option maxRecDepth 16384
noncomputable section
namespace Cert.Proof
open Idealize.ShloMosaic Idealize.SL.Sem
open Cert.KernelIdeal Cert.KernelIdeal.Gen
open Cert.Proof.Fcos

/-- The boxes of an array. -/
abbrev boxes (v0 : Vec Ideal S1000x4 .f32) : Boxes := fun b k => v0 (ix2 b k)

/-- The iota of box numbers. -/
abbrev boxNumbers : IVec S2560x1000 32 := iota Kind.tc S2560x1000 32 [1] iota_S2560x1000_d1_w32

/-- The competing areas of a dense block. -/
abbrev areas (v0 : Vec Ideal S1000x4 .f32) (v58 v60 v62 v90 : Vec Ideal S2560x1 .f32) : FVec Ideal S2560x1000 .f32 :=
  k0_pay4 (k0_pay15 v0) (k0_pay16 v0) (k0_pay17 v0) (k0_pay18 v0) v58 v60 v62 v90

/-- Their least, row by row. -/
abbrev least (v0 : Vec Ideal S1000x4 .f32) (v58 v60 v62 v90 : Vec Ideal S2560x1 .f32) : FVec Ideal S2560x1 .f32 :=
  k0_pay5 (k0_pay15 v0) (k0_pay16 v0) (k0_pay17 v0) (k0_pay18 v0) v58 v60 v62 v90

/-- The first box that has it, row by row. -/
abbrev chosen (v0 : Vec Ideal S1000x4 .f32) (v58 v60 v62 v90 : Vec Ideal S2560x1 .f32) : IVec S2560x1 32 :=
  k0_pay6 (k0_pay15 v0) (k0_pay16 v0) (k0_pay17 v0) (k0_pay18 v0) v58 v60 v62 v90

theorem areas_at (v0 : Vec Ideal S1000x4 .f32) (v58 v60 v62 v90 : Vec Ideal S2560x1 .f32) (r : Fin 2560) (b : Fin 1000) :
    areas v0 v58 v60 v62 v90 (ix2 r b)
      = cand (boxes v0) (v58 (ix2 r 0)) (v60 (ix2 r 0)) (v90 (ix2 r 0)) (v62 (ix2 r 0)) b := by
  unfold areas k0_pay4 k0_pay15 k0_pay16 k0_pay17 k0_pay18 k0_pay14
  pointwise
  show Scalar.select (IntOp.andi (IntOp.andi (BitVec.ofBool (decide (0 < near (boxes v0) (v58 (ix2 r 0)) (v60 (ix2 r 0)) b)))
      (BitVec.ofBool (decide (far (boxes v0) (v58 (ix2 r 0)) (v60 (ix2 r 0)) b ≤ v62 (ix2 r 0)))))
      (BitVec.ofBool (decide (v90 (ix2 r 0) ≤ far (boxes v0) (v58 (ix2 r 0)) (v60 (ix2 r 0)) b))))
      (area (boxes v0) (v58 (ix2 r 0)) (v60 (ix2 r 0)) b) cap = _
  unfold cand
  by_cases c1 : 0 < near (boxes v0) (v58 (ix2 r 0)) (v60 (ix2 r 0)) b <;>
    by_cases c2 : v90 (ix2 r 0) ≤ far (boxes v0) (v58 (ix2 r 0)) (v60 (ix2 r 0)) b <;>
    by_cases c3 : far (boxes v0) (v58 (ix2 r 0)) (v60 (ix2 r 0)) b ≤ v62 (ix2 r 0) <;>
    simp [c1, c2, c3, Scalar.select, IntOp.andi]

theorem least_at (v0 : Vec Ideal S1000x4 .f32) (v58 v60 v62 v90 : Vec Ideal S2560x1 .f32) (r : Fin 2560) (f : Fin 1000 → EReal)
    (h : ∀ b, areas v0 v58 v60 v62 v90 (ix2 r b) = f b) :
    least v0 v58 v60 v62 v90 (ix2 r 0) = best f := by
  unfold least k0_pay5
  pointwise
  rw [lit_top]
  unfold best
  congr 1
  funext b
  exact h b

/-- A signed fold of box numbers: the least of them, when 1000 stands for "not this one". -/
theorem fold_minsi_first (P : Fin 1000 → Prop) [DecidablePred P] (i : Fin 1000) (hi : P i) (hmin : ∀ j, j < i → ¬ P j) :
    Finset.fold IntOp.minsi 2147483647#32 (fun x => if P x then BitVec.ofNat 32 x.val else 1000#32) Finset.univ
      = BitVec.ofNat 32 i.val := by
  have key : ∀ s : Finset (Fin 1000),
      (i ∈ s → Finset.fold IntOp.minsi 2147483647#32 (fun x => if P x then BitVec.ofNat 32 x.val else 1000#32) s
        = BitVec.ofNat 32 i.val) ∧
      (i.val : Int) ≤ (Finset.fold IntOp.minsi 2147483647#32 (fun x => if P x then BitVec.ofNat 32 x.val else 1000#32) s).toInt := by
    have hw : ∀ n : Nat, n < 1001 → (BitVec.ofNat 32 n).toInt = (n : Int) := by
      intro n h
      rw [BitVec.toInt_ofNat', Int.bmod_def]
      omega
    have hil := i.isLt
    intro s
    induction s using Finset.induction_on with
    | empty =>
      refine ⟨fun h => absurd h (Finset.notMem_empty _), ?_⟩
      rw [Finset.fold_empty]
      have : (2147483647#32 : BitVec 32).toInt = 2147483647 := rfl
      omega
    | insert a s ha ih =>
      rw [Finset.fold_insert ha]
      obtain ⟨ih1, ih2⟩ := ih
      generalize hF : Finset.fold IntOp.minsi 2147483647#32 (fun x => if P x then BitVec.ofNat 32 x.val else 1000#32) s = F at *
      have hal := a.isLt
      have hA : (i.val : Int) ≤ (if P a then BitVec.ofNat 32 a.val else 1000#32 : BitVec 32).toInt := by
        by_cases hp : P a
        · rw [if_pos hp, hw _ (by omega)]
          have : ¬ a < i := fun h => hmin a h hp
          have : i.val ≤ a.val := Nat.le_of_not_lt this
          omega
        · rw [if_neg hp, hw 1000 (by omega)]
          omega
      generalize hG : (if P a then BitVec.ofNat 32 a.val else 1000#32 : BitVec 32) = G at *
      have hm : IntOp.minsi G F = if G.toInt < F.toInt then G else F := by
        unfold IntOp.minsi
        simp only [BitVec.slt, decide_eq_true_eq]
      rw [hm]
      refine ⟨fun hmem => ?_, ?_⟩
      · have hiw := hw i.val (by omega)
        rcases Finset.mem_insert.mp hmem with rfl | hmem
        · rw [if_pos hi] at hG
          subst hG
          split
          · rfl
          · apply BitVec.eq_of_toInt_eq
            omega
        · have := ih1 hmem
          subst this
          split
          · omega
          · rfl
      · split <;> assumption
  exact (key Finset.univ).1 (Finset.mem_univ i)

theorem chosen_at (v0 : Vec Ideal S1000x4 .f32) (v58 v60 v62 v90 : Vec Ideal S2560x1 .f32) (r : Fin 2560) (f : Fin 1000 → EReal)
    (h : ∀ b, areas v0 v58 v60 v62 v90 (ix2 r b) = f b) :
    chosen v0 v58 v60 v62 v90 (ix2 r 0) = BitVec.ofNat 32 (pick f).val := by
  have hl := least_at v0 v58 v60 v62 v90 r f h
  unfold areas at h
  unfold least at hl
  unfold chosen k0_pay6
  pointwise
  simp only [h, hl]
  exact fold_minsi_first (fun x => f x = best f) (pick f) (pick_spec f).1 (pick_spec f).2
end Cert.Proof
end
-- ==== Proof.KerPick.lean ====
/-
  The chosen box's data: the one-hot sum over the table of boxes is the chosen row, the two residual columns being zero for
  finite boxes; and the targets of a dense block and of the tail.
-/
module
public import proofs.«01_k».proof.Proof.KerPay
@[expose] public section
set_option maxRecDepth 16384
noncomputable section
namespace Cert.Proof
open Idealize.ShloMosaic Idealize.SL.Sem
open Cert.KernelIdeal Cert.KernelIdeal.Gen
open Cert.Proof.Fcos

/-- Every coordinate of every box is a real number. -/
def AllReal (B : Boxes) : Prop := ∀ b k, ∃ r : ℝ, B b k = (r : EReal)

/-- The table of boxes and labels in three parts. -/
abbrev table (v6 : Vec Ideal S1000x1 .i32) (v0 : Vec Ideal S1000x4 .f32) : FVec Ideal S1000x15 .bf16 := k0_pay19 v6 v0

/-- A row of the table: the box and its label as a number. -/
def rowOf (v6 : Vec Ideal S1000x1 .i32) (v0 : Vec Ideal S1000x4 .f32) (n : Fin 1000) (j : Fin 5) : EReal :=
  ![v0 (ix2 n 0), v0 (ix2 n 1), v0 (ix2 n 2), v0 (ix2 n 3), (((v6 (ix2 n 0) : BitVec 32).toInt : ℝ) : EReal)] j

theorem rowOf_real (v6 : Vec Ideal S1000x1 .i32) (v0 : Vec Ideal S1000x4 .f32) (hB : AllReal (boxes v0)) (n : Fin 1000) (j : Fin 5) :
    rowOf v6 v0 n j - rowOf v6 v0 n j = 0 := by
  have : ∃ r : ℝ, rowOf v6 v0 n j = (r : EReal) := by
    fin_cases j
    · exact hB n 0
    · exact hB n 1
    · exact hB n 2
    · exact hB n 3
    · exact ⟨_, rfl⟩
  obtain ⟨r, hr⟩ := this
  rw [hr, ← EReal.coe_sub, sub_self]
  rfl

theorem table_head (v6 : Vec Ideal S1000x1 .i32) (v0 : Vec Ideal S1000x4 .f32) (n : Fin 1000) (j : Fin 5) (h : j.val < 15) :
    table v6 v0 (ix2 n ⟨j.val, h⟩) = rowOf v6 v0 n j := by
  unfold table k0_pay19
  pointwise
  fin_cases j <;> simp <;> rfl

theorem table_mid (v6 : Vec Ideal S1000x1 .i32) (v0 : Vec Ideal S1000x4 .f32) (n : Fin 1000) (j : Fin 5) (h : 5 + j.val < 15) :
    table v6 v0 (ix2 n ⟨5 + j.val, h⟩) = rowOf v6 v0 n j - rowOf v6 v0 n j := by
  unfold table k0_pay19
  pointwise
  fin_cases j <;> simp <;> rfl

theorem table_low (v6 : Vec Ideal S1000x1 .i32) (v0 : Vec Ideal S1000x4 .f32) (n : Fin 1000) (j : Fin 5) (h : 10 + j.val < 15) :
    table v6 v0 (ix2 n ⟨10 + j.val, h⟩)
      = rowOf v6 v0 n j - rowOf v6 v0 n j - (rowOf v6 v0 n j - rowOf v6 v0 n j) := by
  unfold table k0_pay19
  pointwise
  fin_cases j <;> simp <;> rfl

/-- A sum that a comparison of box numbers makes one-hot. -/
theorem one_hot_sum (g : Fin 1000 → EReal) (n : Fin 1000) :
    ∑ x : Fin 1000, Scalar.select (IntOp.cmpi .eq (BitVec.ofNat 32 x.val) (BitVec.ofNat 32 n.val)) (g x) 0 = g n := by
  rw [Finset.sum_eq_single n]
  · simp [IntOp.cmpi, Scalar.select]
  · intro x _ hx
    have : BitVec.ofNat 32 x.val ≠ BitVec.ofNat 32 n.val := by
      intro e
      have := congrArg BitVec.toNat e
      rw [BitVec.toNat_ofNat, BitVec.toNat_ofNat] at this
      have h1 := x.isLt
      have h2 := n.isLt
      exact hx (Fin.ext (by omega))
    have : (BitVec.ofNat 32 x.val == BitVec.ofNat 32 n.val) = false := by simpa using this
    simp [IntOp.cmpi, Scalar.select, this]
  · intro h
    exact absurd (Finset.mem_univ _) h

theorem picked_at (v6 : Vec Ideal S1000x1 .i32) (v0 : Vec Ideal S1000x4 .f32) (v104 : IVec S2560x1 32) (r : Fin 2560)
    (n : Fin 1000) (j : Fin 5) (hB : AllReal (boxes v0)) (hv : v104 (ix2 r 0) = BitVec.ofNat 32 n.val) :
    k0_pay7 (table v6 v0) boxNumbers v104 (ix2 r j) = rowOf v6 v0 n j := by
  unfold k0_pay7
  pointwise
  rw [hv]
  have e := rowOf_real v6 v0 hB n j
  rw [one_hot_sum (fun x => table v6 v0 (ix2 x ⟨j.val, by omega⟩)) n,
    one_hot_sum (fun x => table v6 v0 (ix2 x ⟨5 + j.val, by omega⟩)) n,
    one_hot_sum (fun x => table v6 v0 (ix2 x ⟨10 + j.val, by omega⟩)) n]
  rw [table_head, table_mid, table_low, e]
  simp

section targets
variable (v6 : Vec Ideal S1000x1 .i32) (v0 : Vec Ideal S1000x4 .f32) (v104 : IVec S2560x1 32) (r : Fin 2560) (n : Fin 1000)
  (hB : AllReal (boxes v0)) (hv : v104 (ix2 r 0) = BitVec.ofNat 32 n.val) (v58 v60 : Vec Ideal S2560x1 .f32)
include hB hv

theorem reg0_at : k0_pay8 (table v6 v0) v58 boxNumbers v104 (ix2 r 0)
    = side (boxes v0) (v58 (ix2 r 0)) (v60 (ix2 r 0)) n 0 := by
  unfold k0_pay8
  pointwise
  rw [picked_at v6 v0 v104 r n 0 hB hv]
  rfl

theorem reg1_at : k0_pay9 (table v6 v0) v60 boxNumbers v104 (ix2 r 0)
    = side (boxes v0) (v58 (ix2 r 0)) (v60 (ix2 r 0)) n 1 := by
  unfold k0_pay9
  pointwise
  rw [picked_at v6 v0 v104 r n 1 hB hv]
  rfl

theorem reg2_at : k0_pay10 (table v6 v0) v58 boxNumbers v104 (ix2 r 0)
    = side (boxes v0) (v58 (ix2 r 0)) (v60 (ix2 r 0)) n 2 := by
  unfold k0_pay10
  pointwise
  rw [picked_at v6 v0 v104 r n 2 hB hv]
  rfl

theorem reg3_at : k0_pay11 (table v6 v0) v60 boxNumbers v104 (ix2 r 0)
    = side (boxes v0) (v58 (ix2 r 0)) (v60 (ix2 r 0)) n 3 := by
  unfold k0_pay11
  pointwise
  rw [picked_at v6 v0 v104 r n 3 hB hv]
  rfl

theorem cnt_at : k0_pay13 (table v6 v0) v58 v60 boxNumbers v104 (ix2 r 0)
    = cnt (side (boxes v0) (v58 (ix2 r 0)) (v60 (ix2 r 0)) n) := by
  unfold k0_pay13 k0_pay8 k0_pay9 k0_pay10 k0_pay11
  pointwise
  rw [picked_at v6 v0 v104 r n 0 hB hv, picked_at v6 v0 v104 r n 1 hB hv, picked_at v6 v0 v104 r n 2 hB hv,
    picked_at v6 v0 v104 r n 3 hB hv]
  rfl

theorem cls_at (v97 : FVec Ideal S2560x1 .f32) (f : Fin 1000 → EReal) (hf : v97 (ix2 r 0) = best f) (hn : n = pick f) :
    k0_pay12 (table v6 v0) v97 boxNumbers v104 (ix2 r 0) = cls f (fun b => v6 (ix2 b 0)) := by
  unfold k0_pay12
  pointwise
  rw [picked_at v6 v0 v104 r n 4 hB hv, hf]
  have e : FloatOps.fptosi (F := Ideal) (φ := .f32) 32 (rowOf v6 v0 n 4) = v6 (ix2 n 0) := fptosi_toInt (v6 (ix2 n 0))
  rw [e, hn]
  unfold cls
  rfl
end targets

section tail
variable (v0 : Vec Ideal S1x1 .f32) (x : Vec Ideal S336x1 .f32) (i : Fin 336)

theorem tail0_at : k0_pay20 x v0 (ix2 i 0) = x (ix2 i 0) - v0 (ix2 0 0) := by
  unfold k0_pay20
  pointwise

theorem tail1_at : k0_pay21 x v0 (ix2 i 0) = x (ix2 i 0) - v0 (ix2 0 0) := by
  unfold k0_pay21
  pointwise

theorem tail2_at : k0_pay22 x v0 (ix2 i 0) = v0 (ix2 0 0) - x (ix2 i 0) := by
  unfold k0_pay22
  pointwise

theorem tail3_at : k0_pay1 x v0 (ix2 i 0) = v0 (ix2 0 0) - x (ix2 i 0) := by
  unfold k0_pay1
  pointwise

theorem tail_cls_at : k0_pay3 (ix2 i 0) = 0#32 := by
  unfold k0_pay3
  pointwise

theorem tail_cnt_at (y l t r : FVec Ideal S336x1 .f32) (d : Fin 4 → EReal) (hl : l (ix2 i 0) = d 0) (ht : t (ix2 i 0) = d 1)
    (hr : r (ix2 i 0) = d 2) (hb : v0 (ix2 0 0) - y (ix2 i 0) = d 3) :
    k0_pay2 y l t r v0 (ix2 i 0) = cnt d := by
  unfold k0_pay2
  pointwise
  rw [tail3_at v0 y i, hl, ht, hr, hb]
  rfl
end tail
end Cert.Proof
end
-- ==== Proof.KerTrip.lean ====
/-
  The kernel's outputs at an index: every stored piece is a block of the target assignment, and the pieces cover the outputs.
-/
module
public import proofs.«01_k».proof.Proof.KerPick
public import Idealize.ShloMosaic.Lib.Pipeline.ReadBack
public import Idealize.ShloMosaic.Lib.Pipeline.CanonAppend
@[expose] public section
set_option maxRecDepth 16384
noncomputable section
namespace Cert.Proof
open Idealize.ShloMosaic Idealize.SL.Sem
open Cert.KernelIdeal Cert.KernelIdeal.Gen
open Cert.Proof.Fcos

section
variable (x0 : Vec Ideal S1000x4 .f32) (x1 : Vec Ideal S1000x1 .i32) (x2 x3 : Vec Ideal S5456x2 .f32)

/-- The areas that compete for point `p`. -/
def rowCand (p : Fin 5456) : Fin 1000 → EReal :=
  cand (boxes x0) (x2 (ix2 p 0)) (x2 (ix2 p 1)) (x3 (ix2 p 0)) (x3 (ix2 p 1))

/-- The regression targets. -/
def regT (y : S5456x4.Idx) : EReal := side (boxes x0) (x2 (ix2 (y 0) 0)) (x2 (ix2 (y 0) 1)) (pick (rowCand x0 x2 x3 (y 0))) (y 1)

/-- The class targets. -/
def clsT (y : S5456x1.Idx) : BitVec 32 := cls (rowCand x0 x2 x3 (y 0)) (fun b => x1 (ix2 b 0))

/-- The centerness targets. -/
def cntT (y : S5456x1.Idx) : EReal := cnt (side (boxes x0) (x2 (ix2 (y 0) 0)) (x2 (ix2 (y 0) 1)) (pick (rowCand x0 x2 x3 (y 0))))
end

/-! Rows of a block of rows. -/

theorem idx_col {n : Nat} (x : (⟨2, ![n, 1]⟩ : Shape).Idx) : ∃ r : Fin n, x = ix2 r 0 :=
  ⟨x 0, by
    funext a
    match a with
    | ⟨0, _⟩ => rfl
    | ⟨1, _⟩ => exact Fin.ext (by have : (x 1).val < 1 := (x 1).isLt; show (x 1).val = 0; omega)⟩

theorem ld_rows {n w h o q : Nat} (X : Vec Ideal ⟨2, ![n, w]⟩ .f32)
    (inb : ∀ a, (![o, q] : Fin 2 → Nat) a + (![h, 1] : Fin 2 → Nat) a ≤ (⟨2, ![n, w]⟩ : Shape).size a) (r : Fin h) (p : Fin n) (j : Fin w)
    (hp : p.val = o + r.val) (hj : j.val = q) :
    View.ld X (Rect.unit (s := ⟨2, ![n, w]⟩) ![o, q] ![h, 1] inb) (ix2 r 0) = X (ix2 p j) := by
  unfold View.ld
  congr 1
  funext a
  apply Fin.ext
  match a with
  | ⟨0, _⟩ => show o + 1 * r.val = p.val; omega
  | ⟨1, _⟩ => show q + 1 * 0 = j.val; omega

theorem emb_rows {n w h o q : Nat}
    (inb : ∀ a, (![o, q] : Fin 2 → Nat) a + (![h, 1] : Fin 2 → Nat) a ≤ (⟨2, ![n, w]⟩ : Shape).size a) (r : Fin h) (p : Fin n) (j : Fin w)
    (hp : p.val = o + r.val) (hj : j.val = q) :
    (Rect.unit (s := ⟨2, ![n, w]⟩) ![o, q] ![h, 1] inb).emb (ix2 r 0) = ix2 p j := by
  funext a
  apply Fin.ext
  match a with
  | ⟨0, _⟩ => show o + 1 * r.val = p.val; omega
  | ⟨1, _⟩ => show q + 1 * 0 = j.val; omega

/-! A dense block at a row: what the payloads hold there, when the four columns hold the point and its range. -/

section dense
variable (v0 : Vec Ideal S1000x4 .f32) (v6 : Vec Ideal S1000x1 .i32) (x2 x3 : Vec Ideal S5456x2 .f32) (A B C D : Vec Ideal S2560x1 .f32)
  (r : Fin 2560) (p : Fin 5456) (hB : AllReal (boxes v0)) (hA : A (ix2 r 0) = x2 (ix2 p 0)) (hY : B (ix2 r 0) = x2 (ix2 p 1))
  (hC : C (ix2 r 0) = x3 (ix2 p 1)) (hD : D (ix2 r 0) = x3 (ix2 p 0))
include hA hY hC hD

theorem dense_areas (b : Fin 1000) : areas v0 A B C D (ix2 r b) = rowCand v0 x2 x3 p b := by
  rw [areas_at, hA, hY, hC, hD]
  rfl

theorem dense_chosen : chosen v0 A B C D (ix2 r 0) = BitVec.ofNat 32 (pick (rowCand v0 x2 x3 p)).val :=
  chosen_at v0 A B C D r _ (dense_areas v0 x2 x3 A B C D r p hA hY hC hD)

include hB

theorem dense_cls : k0_pay12 (table v6 v0) (least v0 A B C D) boxNumbers (chosen v0 A B C D) (ix2 r 0) = clsT v0 v6 x2 x3 (ix2 p 0) :=
  cls_at v6 v0 _ r _ hB (dense_chosen v0 x2 x3 A B C D r p hA hY hC hD) _ _
    (least_at v0 A B C D r _ (dense_areas v0 x2 x3 A B C D r p hA hY hC hD)) rfl

theorem dense_cnt : k0_pay13 (table v6 v0) A B boxNumbers (chosen v0 A B C D) (ix2 r 0) = cntT v0 x2 x3 (ix2 p 0) := by
  rw [cnt_at v6 v0 _ r _ hB (dense_chosen v0 x2 x3 A B C D r p hA hY hC hD), hA, hY]
  rfl

theorem dense_reg0 : k0_pay8 (table v6 v0) A boxNumbers (chosen v0 A B C D) (ix2 r 0) = regT v0 x2 x3 (ix2 p 0) := by
  rw [reg0_at v6 v0 _ r _ hB (dense_chosen v0 x2 x3 A B C D r p hA hY hC hD) A B, hA, hY]
  rfl

theorem dense_reg1 : k0_pay9 (table v6 v0) B boxNumbers (chosen v0 A B C D) (ix2 r 0) = regT v0 x2 x3 (ix2 p 1) := by
  rw [reg1_at v6 v0 _ r _ hB (dense_chosen v0 x2 x3 A B C D r p hA hY hC hD) A B, hA, hY]
  rfl

theorem dense_reg2 : k0_pay10 (table v6 v0) A boxNumbers (chosen v0 A B C D) (ix2 r 0) = regT v0 x2 x3 (ix2 p 2) := by
  rw [reg2_at v6 v0 _ r _ hB (dense_chosen v0 x2 x3 A B C D r p hA hY hC hD) A B, hA, hY]
  rfl

theorem dense_reg3 : k0_pay11 (table v6 v0) B boxNumbers (chosen v0 A B C D) (ix2 r 0) = regT v0 x2 x3 (ix2 p 3) := by
  rw [reg3_at v6 v0 _ r _ hB (dense_chosen v0 x2 x3 A B C D r p hA hY hC hD) A B, hA, hY]
  rfl
end dense

/-- A trip's first row. -/
theorem trip_offset (k : Fin k0_t1_loop.trips) :
    BitVec.toNat (Scalar.indexCast (Scalar.muli (Scf.iv 0#32 1#32 k.val) 2560#32)) = 2560 * k.val := by
  have hk : k.val < 2 := Nat.lt_of_lt_of_le k.isLt k0_t1_abs.2.1
  obtain ⟨k, h⟩ := k
  dsimp only at hk ⊢
  interval_cases k <;> rfl

section trip
variable (c : Dev nD) (arg0 : Memref sig .tc .vmem S1000x4 .f32) (harg0 : arg0.IsWhole) (arg1 : Memref sig .tc .vmem S1000x1 .i32) (harg1 : arg1.IsWhole) (arg2 : Memref sig .tc .vmem S5456x2 .f32) (harg2 : arg2.IsWhole) (arg3 : Memref sig .tc .vmem S5456x2 .f32) (harg3 : arg3.IsWhole) (arg4 : Memref sig .tc .vmem S5456x4 .f32) (harg4 : arg4.IsWhole) (arg5 : Memref sig .tc .vmem S5456x1 .i32) (harg5 : arg5.IsWhole) (arg6 : Memref sig .tc .vmem S5456x1 .f32) (harg6 : arg6.IsWhole)
  (v0 : Vec Ideal S1000x4 .f32) (v6 : Vec Ideal S1000x1 .i32) (x2 : Vec Ideal S5456x2 .f32) (x3 : Vec Ideal S5456x2 .f32) (k : Fin k0_t1_loop.trips)

theorem trip5 (hB : AllReal (boxes v0)) :
    View.PiecesOf (clsT v0 v6 x2 x3) (tripL_k0_t1 Variants.none c none arg0 harg0 arg1 harg1 arg2 harg2 arg3 harg3 arg4 harg4 arg5 harg5 arg6 harg6 v0 v6 v0 (harg2.unread x2) (harg3.unread x3) k).2.1 := by
  have hk : k.val < 2 := Nat.lt_of_lt_of_le k.isLt k0_t1_abs.2.1
  have ho := trip_offset k
  unfold tripL_k0_t1 trip_k0_t1
  dsimp only
  sl_unfold_words
  simp only [View.readAt_eq_ld, Memref.IsWhole.read_unread]
  refine ⟨fun x => ?_, trivial⟩
  obtain ⟨r, rfl⟩ := idx_col x
  have hr := r.isLt
  dsimp only
  refine (dense_cls v0 v6 x2 x3 _ _ _ _ r ⟨2560 * k.val + r.val, by omega⟩ hB (ld_rows _ _ _ _ _ (by rw [ho]) rfl)
    (ld_rows _ _ _ _ _ (by rw [ho]) rfl) (ld_rows _ _ _ _ _ (by rw [ho]) rfl) (ld_rows _ _ _ _ _ (by rw [ho]) rfl)).trans ?_
  refine congrArg (clsT v0 v6 x2 x3) (Eq.symm ?_)
  exact emb_rows _ r _ _ (by rw [ho]) rfl

theorem trip6 (hB : AllReal (boxes v0)) :
    View.PiecesOf (cntT v0 x2 x3) (tripL_k0_t1 Variants.none c none arg0 harg0 arg1 harg1 arg2 harg2 arg3 harg3 arg4 harg4 arg5 harg5 arg6 harg6 v0 v6 v0 (harg2.unread x2) (harg3.unread x3) k).2.2 := by
  have hk : k.val < 2 := Nat.lt_of_lt_of_le k.isLt k0_t1_abs.2.1
  have ho := trip_offset k
  unfold tripL_k0_t1 trip_k0_t1
  dsimp only
  sl_unfold_words
  simp only [View.readAt_eq_ld, Memref.IsWhole.read_unread]
  refine ⟨fun x => ?_, trivial⟩
  obtain ⟨r, rfl⟩ := idx_col x
  have hr := r.isLt
  refine (dense_cnt v0 v6 x2 x3 _ _ _ _ r ⟨2560 * k.val + r.val, by omega⟩ hB (ld_rows _ _ _ _ _ (by rw [ho]) rfl)
    (ld_rows _ _ _ _ _ (by rw [ho]) rfl) (ld_rows _ _ _ _ _ (by rw [ho]) rfl) (ld_rows _ _ _ _ _ (by rw [ho]) rfl)).trans ?_
  refine congrArg (cntT v0 x2 x3) (Eq.symm ?_)
  dsimp only
  exact emb_rows _ r _ _ (by rw [ho]) rfl

theorem trip4 (hB : AllReal (boxes v0)) :
    View.PiecesOf (regT v0 x2 x3) (tripL_k0_t1 Variants.none c none arg0 harg0 arg1 harg1 arg2 harg2 arg3 harg3 arg4 harg4 arg5 harg5 arg6 harg6 v0 v6 v0 (harg2.unread x2) (harg3.unread x3) k).1 := by
  have hk : k.val < 2 := Nat.lt_of_lt_of_le k.isLt k0_t1_abs.2.1
  have ho := trip_offset k
  unfold tripL_k0_t1 trip_k0_t1
  dsimp only
  sl_unfold_words
  simp only [View.readAt_eq_ld, Memref.IsWhole.read_unread]
  refine ⟨fun x => ?_, fun x => ?_, fun x => ?_, fun x => ?_, trivial⟩ <;> obtain ⟨r, rfl⟩ := idx_col x <;> have hr := r.isLt
  · refine (dense_reg3 v0 v6 x2 x3 _ _ _ _ r ⟨2560 * k.val + r.val, by omega⟩ hB (ld_rows _ _ _ _ _ (by rw [ho]) rfl)
      (ld_rows _ _ _ _ _ (by rw [ho]) rfl) (ld_rows _ _ _ _ _ (by rw [ho]) rfl) (ld_rows _ _ _ _ _ (by rw [ho]) rfl)).trans ?_
    refine congrArg (regT v0 x2 x3) (Eq.symm ?_)
    dsimp only
    exact emb_rows _ r _ _ (by rw [ho]) rfl
  · refine (dense_reg2 v0 v6 x2 x3 _ _ _ _ r ⟨2560 * k.val + r.val, by omega⟩ hB (ld_rows _ _ _ _ _ (by rw [ho]) rfl)
      (ld_rows _ _ _ _ _ (by rw [ho]) rfl) (ld_rows _ _ _ _ _ (by rw [ho]) rfl) (ld_rows _ _ _ _ _ (by rw [ho]) rfl)).trans ?_
    refine congrArg (regT v0 x2 x3) (Eq.symm ?_)
    dsimp only
    exact emb_rows _ r _ _ (by rw [ho]) rfl
  · refine (dense_reg1 v0 v6 x2 x3 _ _ _ _ r ⟨2560 * k.val + r.val, by omega⟩ hB (ld_rows _ _ _ _ _ (by rw [ho]) rfl)
      (ld_rows _ _ _ _ _ (by rw [ho]) rfl) (ld_rows _ _ _ _ _ (by rw [ho]) rfl) (ld_rows _ _ _ _ _ (by rw [ho]) rfl)).trans ?_
    refine congrArg (regT v0 x2 x3) (Eq.symm ?_)
    dsimp only
    exact emb_rows _ r _ _ (by rw [ho]) rfl
  · refine (dense_reg0 v0 v6 x2 x3 _ _ _ _ r ⟨2560 * k.val + r.val, by omega⟩ hB (ld_rows _ _ _ _ _ (by rw [ho]) rfl)
      (ld_rows _ _ _ _ _ (by rw [ho]) rfl) (ld_rows _ _ _ _ _ (by rw [ho]) rfl) (ld_rows _ _ _ _ _ (by rw [ho]) rfl)).trans ?_
    refine congrArg (regT v0 x2 x3) (Eq.symm ?_)
    dsimp only
    exact emb_rows _ r _ _ (by rw [ho]) rfl
end trip
end Cert.Proof
end
-- ==== Proof.KerOut.lean ====
/-
  The kernel's outputs at an index: the pieces of the trips and of the closing rows cover each output, and each is a block of its target.
-/
module
public import proofs.«01_k».proof.Proof.KerTrip
public import proofs.«01_k».proof.Proof.Gen.KernelIdeal.Frame
@[expose] public section
set_option maxRecDepth 16384
noncomputable section
namespace Cert.Proof
open Idealize.ShloMosaic Idealize.ShloMosaic.Tactic Idealize.SL.Sem
open Cert.KernelIdeal Cert.KernelIdeal.Gen
open Cert.Proof.Fcos

theorem piecesOf_append {Val : EltTy → Type} {s : Shape} {e : EltTy} (G : s.Idx → Val e) (M : List (View.Piece Val s e)) (hM : View.PiecesOf G M) :
    ∀ L : List (View.Piece Val s e), View.PiecesOf G L → View.PiecesOf G (L ++ M)
  | [], _ => hM
  | _ :: L, h => ⟨h.1, piecesOf_append G M hM L h.2⟩

section trips
variable (c : Dev nD) (arg0 : Memref sig .tc .vmem S1000x4 .f32) (harg0 : arg0.IsWhole) (arg1 : Memref sig .tc .vmem S1000x1 .i32) (harg1 : arg1.IsWhole) (arg2 : Memref sig .tc .vmem S5456x2 .f32) (harg2 : arg2.IsWhole) (arg3 : Memref sig .tc .vmem S5456x2 .f32) (harg3 : arg3.IsWhole) (arg4 : Memref sig .tc .vmem S5456x4 .f32) (harg4 : arg4.IsWhole) (arg5 : Memref sig .tc .vmem S5456x1 .i32) (harg5 : arg5.IsWhole) (arg6 : Memref sig .tc .vmem S5456x1 .f32) (harg6 : arg6.IsWhole)
  (v0 : Vec Ideal S1000x4 .f32) (v6 : Vec Ideal S1000x1 .i32) (x2 : Vec Ideal S5456x2 .f32) (x3 : Vec Ideal S5456x2 .f32)

/-- The pieces of the trips before trip `n`. -/
abbrev before (n : ℕ) := pb_k0_t1 (F := Ideal) Variants.none c none arg0 harg0 arg1 harg1 arg2 harg2 arg3 harg3 arg4 harg4 arg5 harg5 arg6 harg6 v0 v6 v0 (harg2.unread x2) (harg3.unread x3) n

theorem before_blocks (hB : AllReal (boxes v0)) : ∀ n : ℕ, n ≤ k0_t1_loop.trips →
    View.PiecesOf (regT v0 x2 x3) (before c arg0 harg0 arg1 harg1 arg2 harg2 arg3 harg3 arg4 harg4 arg5 harg5 arg6 harg6 v0 v6 x2 x3 n).1
    ∧ View.PiecesOf (clsT v0 v6 x2 x3) (before c arg0 harg0 arg1 harg1 arg2 harg2 arg3 harg3 arg4 harg4 arg5 harg5 arg6 harg6 v0 v6 x2 x3 n).2.1
    ∧ View.PiecesOf (cntT v0 x2 x3) (before c arg0 harg0 arg1 harg1 arg2 harg2 arg3 harg3 arg4 harg4 arg5 harg5 arg6 harg6 v0 v6 x2 x3 n).2.2
  | 0, _ => ⟨trivial, trivial, trivial⟩
  | n + 1, h => by
    obtain ⟨h4, h5, h6⟩ := before_blocks hB n (Nat.le_of_succ_le h)
    have e := pb_k0_t1_succ (F := Ideal) Variants.none c none arg0 harg0 arg1 harg1 arg2 harg2 arg3 harg3 arg4 harg4 arg5 harg5 arg6 harg6 v0 v6 v0 (harg2.unread x2) (harg3.unread x3) ⟨n, h⟩
    dsimp only at e
    unfold before
    rw [e]
    exact ⟨piecesOf_append _ _ h4 _ (trip4 c arg0 harg0 arg1 harg1 arg2 harg2 arg3 harg3 arg4 harg4 arg5 harg5 arg6 harg6 v0 v6 x2 x3 ⟨n, h⟩ hB),
      piecesOf_append _ _ h5 _ (trip5 c arg0 harg0 arg1 harg1 arg2 harg2 arg3 harg3 arg4 harg4 arg5 harg5 arg6 harg6 v0 v6 x2 x3 ⟨n, h⟩ hB),
      piecesOf_append _ _ h6 _ (trip6 c arg0 harg0 arg1 harg1 arg2 harg2 arg3 harg3 arg4 harg4 arg5 harg5 arg6 harg6 v0 v6 x2 x3 ⟨n, h⟩ hB)⟩
end trips

/-! The closing rows. -/

theorem ld_boxes (X : Vec Ideal S1000x4 .f32) : View.ld X (Rect.unit ![0, 0] ![1000, 4] inb_S1000x4_S1000x4_0_0) = X := by
  funext x
  unfold View.ld
  congr 1
  funext a
  apply Fin.ext
  match a with
  | ⟨0, _⟩ => show 0 + 1 * (x 0).val = (x 0).val; omega
  | ⟨1, _⟩ => show 0 + 1 * (x 1).val = (x 1).val; omega

theorem ld_labels (X : Vec Ideal S1000x1 .i32) : View.ld X (Rect.unit ![0, 0] ![1000, 1] inb_S1000x1_S1000x1_0_0) = X := by
  funext x
  unfold View.ld
  congr 1
  funext a
  apply Fin.ext
  match a with
  | ⟨0, _⟩ => show 0 + 1 * (x 0).val = (x 0).val; omega
  | ⟨1, _⟩ => show 0 + 1 * (x 1).val = (x 1).val; omega

/-- Row `i` of the closing rows. -/
abbrev lastRow (i : Fin 336) : Fin 5456 := ⟨5120 + i.val, by omega⟩

section closing
variable (x0 : Vec Ideal S1000x4 .f32) (x1 : Vec Ideal S1000x1 .i32) (x2 x3 : Vec Ideal S5456x2 .f32) (i : Fin 336)
  (hT : ∀ p : Fin 5456, 5120 ≤ p.val → ∀ b, rowCand x0 x2 x3 p b = cap)
include hT

theorem last_pick : best (rowCand x0 x2 x3 (lastRow i)) = cap ∧ pick (rowCand x0 x2 x3 (lastRow i)) = 0 :=
  pick_const (hT (lastRow i) (Nat.le_add_right _ _))

theorem last_cls : k0_pay3 (ix2 i 0) = clsT x0 x1 x2 x3 (ix2 (lastRow i) 0) := by
  rw [tail_cls_at]
  show _ = cls (rowCand x0 x2 x3 (lastRow i)) _
  unfold cls
  rw [if_pos (last_pick x0 x2 x3 i hT).1]

theorem last_side (k : Fin 4) :
    regT x0 x2 x3 (ix2 (lastRow i) k) = side (boxes x0) (x2 (ix2 (lastRow i) 0)) (x2 (ix2 (lastRow i) 1)) 0 k := by
  show side (boxes x0) _ _ (pick (rowCand x0 x2 x3 (lastRow i))) k = _
  rw [(last_pick x0 x2 x3 i hT).2]
  rfl

variable (X Y : Vec Ideal S336x1 .f32) (hX : X (ix2 i 0) = x2 (ix2 (lastRow i) 0)) (hY : Y (ix2 i 0) = x2 (ix2 (lastRow i) 1))
  (c0 c1 c2 c3 : Vec Ideal S1x1 .f32) (h0 : c0 (ix2 0 0) = x0 (ix2 0 0)) (h1 : c1 (ix2 0 0) = x0 (ix2 0 1))
  (h2 : c2 (ix2 0 0) = x0 (ix2 0 2)) (h3 : c3 (ix2 0 0) = x0 (ix2 0 3))

include hX h0 in
theorem last_reg0 : k0_pay20 X c0 (ix2 i 0) = regT x0 x2 x3 (ix2 (lastRow i) 0) := by
  rw [tail0_at, last_side x0 x2 x3 i hT, hX, h0]
  rfl

include hY h1 in
theorem last_reg1 : k0_pay21 Y c1 (ix2 i 0) = regT x0 x2 x3 (ix2 (lastRow i) 1) := by
  rw [tail1_at, last_side x0 x2 x3 i hT, hY, h1]
  rfl

include hX h2 in
theorem last_reg2 : k0_pay22 X c2 (ix2 i 0) = regT x0 x2 x3 (ix2 (lastRow i) 2) := by
  rw [tail2_at, last_side x0 x2 x3 i hT, hX, h2]
  rfl

include hY h3 in
theorem last_reg3 : k0_pay1 Y c3 (ix2 i 0) = regT x0 x2 x3 (ix2 (lastRow i) 3) := by
  rw [tail3_at, last_side x0 x2 x3 i hT, hY, h3]
  rfl

include hX hY h0 h1 h2 h3 in
theorem last_cnt : k0_pay2 Y (k0_pay20 X c0) (k0_pay21 Y c1) (k0_pay22 X c2) c3 (ix2 i 0) = cntT x0 x2 x3 (ix2 (lastRow i) 0) := by
  refine (tail_cnt_at c3 i Y _ _ _ (fun k => regT x0 x2 x3 (ix2 (lastRow i) k)) (last_reg0 x0 x2 x3 i hT X hX c0 h0)
    (last_reg1 x0 x2 x3 i hT Y hY c1 h1) (last_reg2 x0 x2 x3 i hT X hX c2 h2) ?_).trans rfl
  rw [← tail3_at, last_reg3 x0 x2 x3 i hT Y hY c3 h3]
end closing

section outs
variable (c : Dev nD) (arg0 : Memref sig .tc .vmem S1000x4 .f32) (harg0 : arg0.IsWhole) (arg1 : Memref sig .tc .vmem S1000x1 .i32) (harg1 : arg1.IsWhole) (arg2 : Memref sig .tc .vmem S5456x2 .f32) (harg2 : arg2.IsWhole) (arg3 : Memref sig .tc .vmem S5456x2 .f32) (harg3 : arg3.IsWhole) (arg4 : Memref sig .tc .vmem S5456x4 .f32) (harg4 : arg4.IsWhole) (arg5 : Memref sig .tc .vmem S5456x1 .i32) (harg5 : arg5.IsWhole) (arg6 : Memref sig .tc .vmem S5456x1 .f32) (harg6 : arg6.IsWhole)
  (x0 : Vec Ideal S1000x4 .f32) (x1 : Vec Ideal S1000x1 .i32) (x2 : Vec Ideal S5456x2 .f32) (x3 : Vec Ideal S5456x2 .f32)
  (hB : AllReal (boxes x0)) (hT : ∀ p : Fin 5456, 5120 ≤ p.val → ∀ b, rowCand x0 x2 x3 p b = cap)
include hB hT

theorem list4 : View.PiecesOf (regT x0 x2 x3) (kernelRun0_A c arg0 harg0 arg1 harg1 arg2 harg2 arg3 harg3 arg4 harg4 arg5 harg5 arg6 harg6 x0 x1 x2 x3).1 := by
  unfold kernelRun0_A
  dsimp only
  sl_unfold_words
  simp only [View.readAt_eq_ld, Memref.IsWhole.read_unread, ld_boxes, ld_labels]
  refine ⟨fun x => ?_, fun x => ?_, fun x => ?_, fun x => ?_,
    (before_blocks c arg0 harg0 arg1 harg1 arg2 harg2 arg3 harg3 arg4 harg4 arg5 harg5 arg6 harg6 x0 x1 x2 x3 hB _ le_rfl).1⟩ <;>
    obtain ⟨r, rfl⟩ := idx_col x <;> try dsimp only
  · refine (last_reg3 x0 x2 x3 r hT _ (ld_rows _ _ _ _ _ rfl rfl) _ (ld_rows _ _ _ _ _ rfl rfl)).trans ?_
    refine congrArg (regT x0 x2 x3) (Eq.symm ?_)
    exact emb_rows _ _ _ _ rfl rfl
  · refine (last_reg2 x0 x2 x3 r hT _ (ld_rows _ _ _ _ _ rfl rfl) _ (ld_rows _ _ _ _ _ rfl rfl)).trans ?_
    refine congrArg (regT x0 x2 x3) (Eq.symm ?_)
    exact emb_rows _ _ _ _ rfl rfl
  · refine (last_reg1 x0 x2 x3 r hT _ (ld_rows _ _ _ _ _ rfl rfl) _ (ld_rows _ _ _ _ _ rfl rfl)).trans ?_
    refine congrArg (regT x0 x2 x3) (Eq.symm ?_)
    exact emb_rows _ _ _ _ rfl rfl
  · refine (last_reg0 x0 x2 x3 r hT _ (ld_rows _ _ _ _ _ rfl rfl) _ (ld_rows _ _ _ _ _ rfl rfl)).trans ?_
    refine congrArg (regT x0 x2 x3) (Eq.symm ?_)
    exact emb_rows _ _ _ _ rfl rfl

theorem list6 : View.PiecesOf (cntT x0 x2 x3) (kernelRun0_A c arg0 harg0 arg1 harg1 arg2 harg2 arg3 harg3 arg4 harg4 arg5 harg5 arg6 harg6 x0 x1 x2 x3).2.2.1 := by
  unfold kernelRun0_A
  dsimp only
  sl_unfold_words
  simp only [View.readAt_eq_ld, Memref.IsWhole.read_unread, ld_boxes, ld_labels]
  refine ⟨fun x => ?_, (before_blocks c arg0 harg0 arg1 harg1 arg2 harg2 arg3 harg3 arg4 harg4 arg5 harg5 arg6 harg6 x0 x1 x2 x3 hB _ le_rfl).2.2⟩
  obtain ⟨r, rfl⟩ := idx_col x
  try dsimp only
  refine (last_cnt x0 x2 x3 r hT _ _ (ld_rows _ _ _ _ _ rfl rfl) (ld_rows _ _ _ _ _ rfl rfl) _ _ _ _ (ld_rows _ _ _ _ _ rfl rfl)
    (ld_rows _ _ _ _ _ rfl rfl) (ld_rows _ _ _ _ _ rfl rfl) (ld_rows _ _ _ _ _ rfl rfl)).trans ?_
  refine congrArg (cntT x0 x2 x3) (Eq.symm ?_)
  exact emb_rows _ _ _ _ rfl rfl

theorem list5 : View.PiecesOf (clsT x0 x1 x2 x3) (kernelRun0_A c arg0 harg0 arg1 harg1 arg2 harg2 arg3 harg3 arg4 harg4 arg5 harg5 arg6 harg6 x0 x1 x2 x3).2.1 := by
  unfold kernelRun0_A
  dsimp only
  sl_unfold_words
  simp only [View.readAt_eq_ld, Memref.IsWhole.read_unread, ld_boxes, ld_labels]
  refine ⟨fun x => ?_, (before_blocks c arg0 harg0 arg1 harg1 arg2 harg2 arg3 harg3 arg4 harg4 arg5 harg5 arg6 harg6 x0 x1 x2 x3 hB _ le_rfl).2.1⟩
  obtain ⟨r, rfl⟩ := idx_col x
  try dsimp only
  refine (last_cls x0 x1 x2 x3 r hT).trans ?_
  refine congrArg (clsT x0 x1 x2 x3) (Eq.symm ?_)
  exact emb_rows _ _ _ _ rfl rfl

theorem out4_at (y : S5456x4.Idx) :
    out0_A_4 c arg0 harg0 arg1 harg1 arg2 harg2 arg3 harg3 arg4 harg4 arg5 harg5 arg6 harg6 x0 x1 x2 x3 y = regT x0 x2 x3 y := by
  have h := View.canon_append_of_pieces (regT x0 x2 x3) [] _
    (list4 c arg0 harg0 arg1 harg1 arg2 harg2 arg3 harg3 arg4 harg4 arg5 harg5 arg6 harg6 x0 x1 x2 x3 hB hT).mem y
    (cover0_A_4 c arg0 harg0 arg1 harg1 arg2 harg2 arg3 harg3 arg4 harg4 arg5 harg5 arg6 harg6 x0 x1 x2 x3 y)
  rw [List.append_nil] at h
  unfold out0_A_4
  rw [View.read_writes_junk_eq_canon]
  exact h

theorem out5_at (y : S5456x1.Idx) :
    out0_A_5 c arg0 harg0 arg1 harg1 arg2 harg2 arg3 harg3 arg4 harg4 arg5 harg5 arg6 harg6 x0 x1 x2 x3 y = clsT x0 x1 x2 x3 y := by
  have h := View.canon_append_of_pieces (clsT x0 x1 x2 x3) [] _
    (list5 c arg0 harg0 arg1 harg1 arg2 harg2 arg3 harg3 arg4 harg4 arg5 harg5 arg6 harg6 x0 x1 x2 x3 hB hT).mem y
    (cover0_A_5 c arg0 harg0 arg1 harg1 arg2 harg2 arg3 harg3 arg4 harg4 arg5 harg5 arg6 harg6 x0 x1 x2 x3 y)
  rw [List.append_nil] at h
  unfold out0_A_5
  rw [View.read_writes_junk_eq_canon]
  exact h

theorem out6_at (y : S5456x1.Idx) :
    out0_A_6 c arg0 harg0 arg1 harg1 arg2 harg2 arg3 harg3 arg4 harg4 arg5 harg5 arg6 harg6 x0 x1 x2 x3 y = cntT x0 x2 x3 y := by
  have h := View.canon_append_of_pieces (cntT x0 x2 x3) [] _
    (list6 c arg0 harg0 arg1 harg1 arg2 harg2 arg3 harg3 arg4 harg4 arg5 harg5 arg6 harg6 x0 x1 x2 x3 hB hT).mem y
    (cover0_A_6 c arg0 harg0 arg1 harg1 arg2 harg2 arg3 harg3 arg4 harg4 arg5 harg5 arg6 harg6 x0 x1 x2 x3 y)
  rw [List.append_nil] at h
  unfold out0_A_6
  rw [View.read_writes_junk_eq_canon]
  exact h
end outs
end Cert.Proof
end
-- ==== Proof.KerRun.lean ====
/-
  The run of the kernel's program: each result array is its target assignment of the argument arrays.
-/
module
public import proofs.«01_k».proof.Proof.KerOut
public import Idealize.ShloMosaic.Lib.Pipeline.Value
public import Idealize.ShloMosaic.Lib.Pipeline.ValueKit
public import Idealize.ShloMosaic.Lib.StableHlo.ReadAt
@[expose] public section
set_option maxRecDepth 16384
noncomputable section
namespace Cert.Proof
open Idealize.ShloMosaic Idealize.ShloMosaic.TcCoe Idealize.ShloMosaic.Tactic Idealize.SL.Sem
open Cert.KernelIdeal Cert.KernelIdeal.Gen
open Cert.Proof.Fcos

variable (m : (ℓ : Loc nD τ sig) → Buf (Elt Ideal) ℓ) (g : Dev nD → PrngReg)

/-- The argument arrays, as vectors. -/
abbrev boxArg (c : Dev nD) : Vec Ideal S1000x4 .f32 := m ((c : Thread nD τ).loc main_arg1)
abbrev labelArg (c : Dev nD) : Vec Ideal S1000 .i32 := m ((c : Thread nD τ).loc main_arg2)
abbrev pointArg (c : Dev nD) : Vec Ideal S5456x2 .f32 := m ((c : Thread nD τ).loc main_arg3)
abbrev rangeArg (c : Dev nD) : Vec Ideal S5456x2 .f32 := m ((c : Thread nD τ).loc main_arg4)

/-- The labels as one column. -/
def labelCol (L : Vec Ideal S1000 .i32) : Vec Ideal S1000x1 .i32 := fun j => L (ix1 (j 0))

theorem column_at (L : Vec Ideal S1000 .i32) (b : Fin 1000) :
    broadcastInDim S1000x1 ![0] bcast_S1000_S1000x1_0 L (ix2 b 0) = labelCol L (ix2 b 0) := by
  unfold labelCol
  pointwise

theorem row_at (X : IVec S5456x1 32) (p : Fin 5456) : shapeCast S5456 X shapeCasts_S5456x1_S5456 (ix1 p) = X (ix2 p 0) := by
  pointwise

/-- Every window has one block, the whole of its array. -/
theorem block_index : ∀ t : Fin cfg0.N, win0_0.index t = ![0, 0] ∧ win0_1.index t = ![0, 0] ∧ win0_2.index t = ![0, 0] ∧ win0_3.index t = ![0, 0] :=
  (by decide +kernel : ∀ t : Fin grid0.N, _)

theorem V_labels (c : Dev nD) : V m c main_v0 = labelCol (labelArg m c) := by
  funext j
  show StableHlo.after (List.flatten [hostOps0]) (fun b => m (c, b)) (Proc.devRef .tc main_v0) j = _
  after_reads_simp
  obtain ⟨b, rfl⟩ := idx_col j
  exact column_at (labelArg m c) b

theorem boxes_in (c : Dev nD) : iblk m c 0 t0_0 = boxArg m c := by
  rw [← show V m c main_arg1 = boxArg m c from V_main_arg1 m c]
  blk_ext! [iblk, block_index t0_0]

theorem labels_in (c : Dev nD) : iblk m c 1 t0_0 = labelCol (labelArg m c) := by
  rw [← V_labels]
  blk_ext! [iblk, block_index t0_0]

theorem points_in (c : Dev nD) : iblk m c 2 t0_0 = pointArg m c := by
  rw [← show V m c main_arg3 = pointArg m c from V_main_arg3 m c]
  blk_ext! [iblk, block_index t0_0]

theorem ranges_in (c : Dev nD) : iblk m c 3 t0_0 = rangeArg m c := by
  rw [← show V m c main_arg4 = rangeArg m c from V_main_arg4 m c]
  blk_ext! [iblk, block_index t0_0]

section arrays
variable (c : Dev nD) (hB : AllReal (boxes (boxArg m c)))
  (hT : ∀ p : Fin 5456, 5120 ≤ p.val → ∀ b, rowCand (boxArg m c) (pointArg m c) (rangeArg m c) p b = cap)
include hB hT

theorem reg_array : (dats m 0 c).arrAt 4 cfg0.N = regT (boxArg m c) (pointArg m c) (rangeArg m c) := by
  refine (dats m 0 c).arrAt_eq_of_after_last 4 t0_0 (by decide +kernel) _ fun j => ?_
  blk_simp
  rw [after0_4]
  unfold outsAt0
  dsimp only
  rw [boxes_in, labels_in, points_in, ranges_in]
  exact out4_at c _ _ _ _ _ _ _ _ _ _ _ _ _ _ _ _ _ _ hB hT _

theorem cls_array : (dats m 0 c).arrAt 5 cfg0.N = clsT (boxArg m c) (labelCol (labelArg m c)) (pointArg m c) (rangeArg m c) := by
  refine (dats m 0 c).arrAt_eq_of_after_last 5 t0_0 (by decide +kernel) _ fun j => ?_
  blk_simp
  rw [after0_5]
  unfold outsAt0
  dsimp only
  rw [boxes_in, labels_in, points_in, ranges_in]
  exact out5_at c _ _ _ _ _ _ _ _ _ _ _ _ _ _ _ _ _ _ hB hT _

theorem cnt_array : (dats m 0 c).arrAt 6 cfg0.N = cntT (boxArg m c) (pointArg m c) (rangeArg m c) := by
  refine (dats m 0 c).arrAt_eq_of_after_last 6 t0_0 (by decide +kernel) _ fun j => ?_
  blk_simp
  rw [after0_6]
  unfold outsAt0
  dsimp only
  rw [boxes_in, labels_in, points_in, ranges_in]
  exact out6_at c _ _ _ _ _ _ _ _ _ _ _ _ _ _ _ _ _ _ hB hT _
end arrays

/-- The line after the region reads the class array as one row. -/
theorem cls_row (c : Dev nD) (p : Fin 5456) :
    (Pipeline.afterTail₀ cfgs (dats m) 0 (V0 m) [hostOps1] c main_v2 : IVec S5456 32) (ix1 p)
      = ((dats m 0 c).arrAt 5 cfg0.N : IVec S5456x1 32) (ix2 p 0) := by
  have e := Pipeline.withArrays_arr spec0 winFacts0.arr_inj c (V0 m c) (fun w => (dats m 0 c).arrAt w cfg0.N) 5
  unfold Pipeline.afterTail₀
  after_reads_simp
  refine (row_at _ p).trans ?_
  exact congrFun e (ix2 p 0)

/-- The class result: one label per point. -/
def clsRow (c : Dev nD) : IVec S5456 32 := fun i => clsT (boxArg m c) (labelCol (labelArg m c)) (pointArg m c) (rangeArg m c) (ix2 (i 0) 0)

/-- The run of the kernel's program, every result named, the arguments unchanged. -/
theorem kernel_run (hB : ∀ c, AllReal (boxes (boxArg m c)))
    (hT : ∀ c, ∀ p : Fin 5456, 5120 ≤ p.val → ∀ b, rowCand (boxArg m c) (pointArg m c) (rangeArg m c) p b = cap) :
    θ_run (defs (F := Ideal)) (onTc (τ := τ) (main (F := Ideal))) ⟨m, fun _ => 0, g⟩ fun r => ∀ c : Dev nD,
      r.2.mem ((c.tc : Thread nD τ).loc main_arg0) = m ((c.tc : Thread nD τ).loc main_arg0)
      ∧ r.2.mem ((c.tc : Thread nD τ).loc main_v1_0) = regT (boxArg m c) (pointArg m c) (rangeArg m c)
      ∧ r.2.mem ((c.tc : Thread nD τ).loc main_v2) = clsRow m c
      ∧ r.2.mem ((c.tc : Thread nD τ).loc main_v1_2) = cntT (boxArg m c) (pointArg m c) (rangeArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main m g)
  have k0 := ((h c).2 main_arg0 (Pipeline.mem_restRefs_of main_arg0 (by decide) (by decide))).trans (W_main_arg0 m (dats m) c)
  refine ⟨k0, ((h c).1 4).trans (reg_array m c (hB c) (hT c)), ?_, ((h c).1 6).trans (cnt_array m c (hB c) (hT c)), k0,
    ((h c).1 0).trans (((dats m 0 c).arrAt_in 0 rfl _).trans ((A_eq m c 0).trans (V_main_arg1 m c))),
    ((h c).2 main_arg2 (Pipeline.mem_restRefs_of main_arg2 (by decide) (by decide))).trans (W_main_arg2 m (dats m) c),
    ((h c).1 2).trans (((dats m 0 c).arrAt_in 2 rfl _).trans ((A_eq m c 2).trans (V_main_arg3 m c))),
    ((h c).1 3).trans (((dats m 0 c).arrAt_in 3 rfl _).trans ((A_eq m c 3).trans (V_main_arg4 m c)))⟩
  refine ((h c).2 main_v2 (Pipeline.mem_restRefs_of main_v2 (by decide) (by decide))).trans ?_
  funext i
  obtain ⟨p, rfl⟩ : ∃ p : Fin 5456, i = ix1 p := ⟨i 0, by funext a; match a with | ⟨0, _⟩ => rfl⟩
  refine (cls_row m c p).trans ?_
  rw [cls_array m c (hB c) (hT c)]
  rfl
end Cert.Proof
end
-- ==== Proof.Tail.lean ====
/-
  What the precondition gives: every box is finite, and no box competes for a point of the closing rows.
-/
module
public import proofs.«01_k».proof.Proof.KerRun
public import proofs.«01_k».proof.Proof.Lits
public import proofs.«01_k».proof.Pre_coarse_levels_out_of_reach
public import Idealize.ShloMosaic.Lib.ReduceAll
public import Idealize.ShloMosaic.Lib.Affine
public import Idealize.ShloMosaic.Lib.WordArith
@[expose] public section
noncomputable section
namespace Cert.Proof
open Idealize.ShloMosaic
open Cert.Pre_coarse_levels_out_of_reach
open Cert.Proof.Fcos

/-- The predicate's side conditions. -/
theorem preFacts : Cert.Pre_coarse_levels_out_of_reach.Facts where
  bcast_S_S1000x4 := by decide
  slices_S1000x4_S1000x2_0_2 := by decide
  slices_S1000x4_S1000x2_0_0 := by decide
  bcast_S_S1000x2 := by decide
  slices_S5456x2_S336x1_5120_0 := by decide
  shapeCasts_S336x1_S336 := by decide
  bcast_S_S336 := by decide
  reducesTo_S1000x4_S_d0_1 := by decide
  h_S_ := by decide
  reducesTo_S1000x2_S_d0_1 := by decide
  reducesTo_S336_S_d0 := by decide

/-- A decided proposition whose bit is 1 holds. -/
theorem of_bit {p : Prop} [Decidable p] (h : BitVec.ofBool (decide p) = 1#1) : p := by
  by_contra hp
  rw [decide_eq_false hp] at h
  exact absurd h (by decide)

/-! The three comparisons at an index. -/

theorem finite_at (B : FVec Ideal S1000x4 .f32) (hb : S_.BroadcastsInDim S1000x4 (![] : Fin 0 → Fin S1000x4.rank)) (b : Fin 1000) (k : Fin 4) :
    andi (cmpf .ogt B (broadcastInDim S1000x4 ![] hb (constant (F := Ideal) S_ .f32 0xFF800000#32)))
        (cmpf .olt B (broadcastInDim S1000x4 ![] hb (constant (F := Ideal) S_ .f32 0x7F800000#32))) (ix2 b k)
      = IntOp.andi (BitVec.ofBool (decide (⊥ < B (ix2 b k)))) (BitVec.ofBool (decide (B (ix2 b k) < ⊤))) := by
  pointwise
  rw [lit_bot, lit_top]

theorem narrow_at (B : FVec Ideal S1000x4 .f32) (hb : S_.BroadcastsInDim S1000x2 (![] : Fin 0 → Fin S1000x2.rank))
    (h2 : S1000x4.Slices ![0, 2] S1000x2) (h0 : S1000x4.Slices ![0, 0] S1000x2) (b : Fin 1000) (k : Fin 2) :
    cmpf .olt (subf (extractStridedSlice S1000x2 ![0, 2] B h2) (extractStridedSlice S1000x2 ![0, 0] B h0))
        (broadcastInDim S1000x2 ![] hb (constant (F := Ideal) S_ .f32 0x43000000#32)) (ix2 b k)
      = BitVec.ofBool (decide (B (ix2 b ⟨2 + k.val, by omega⟩) - B (ix2 b ⟨k.val, by omega⟩) < ((128 : ℝ) : EReal))) := by
  pointwise
  rw [lit_128]

theorem reach_at (R : FVec Ideal S5456x2 .f32) (hb : S_.BroadcastsInDim S336 (![] : Fin 0 → Fin S336.rank))
    (h : S5456x2.Slices ![5120, 0] S336x1) (hc : S336x1.ShapeCasts S336) (i : Fin 336) :
    cmpf .oge (shapeCast S336 (extractStridedSlice S336x1 ![5120, 0] R h) hc)
        (broadcastInDim S336 ![] hb (constant (F := Ideal) S_ .f32 0x43000000#32)) (ix1 i)
      = BitVec.ofBool (decide (((128 : ℝ) : EReal) ≤ R (ix2 (lastRow i) 0))) := by
  pointwise
  rw [lit_128]

attribute [local instance] preFacts in
theorem pre_parts (I : FVec Ideal S3x512x512 .f32) (B : FVec Ideal S1000x4 .f32) (L : IVec S1000 32) (P R : FVec Ideal S5456x2 .f32)
    (h : fn (F := Ideal) I B L P R = fun _ => 1#1) :
    (∀ b k, ⊥ < B (ix2 b k) ∧ B (ix2 b k) < ⊤)
    ∧ (∀ (b : Fin 1000) (k : Fin 2), B (ix2 b ⟨2 + k.val, by omega⟩) - B (ix2 b ⟨k.val, by omega⟩) < ((128 : ℝ) : EReal))
    ∧ ∀ i : Fin 336, ((128 : ℝ) : EReal) ≤ R (ix2 (lastRow i) 0) := by
  have e := congrFun h (Shape.Idx.first preFacts.h_S_)
  dsimp only [fn, fn_part1] at e
  obtain ⟨e12, e3⟩ := IntOp.andi_eq_one.1 e
  obtain ⟨e1, e2⟩ := IntOp.andi_eq_one.1 e12
  refine ⟨fun b k => ?_, fun b k => ?_, fun i => ?_⟩
  · have := (finite_at B _ b k).symm.trans (Host.reduce_andi_all _ _ _ _ _ e1 (ix2 b k))
    obtain ⟨u, v⟩ := IntOp.andi_eq_one.1 this
    exact ⟨of_bit u, of_bit v⟩
  · have := (narrow_at B _ _ _ b k).symm.trans (Host.reduce_andi_all _ _ _ _ _ e2 (ix2 b k))
    exact of_bit this
  · have := (reach_at R _ _ _ i).symm.trans (Host.reduce_andi_all _ _ _ _ _ e3 (ix1 i))
    exact of_bit this

/-! The extended reals' part. -/

/-- One axis: a coordinate strictly inside an interval is real, and both distances are below the interval's width. -/
theorem inside_axis (lo hi : ℝ) (x : EReal) (h1 : 0 < x - (lo : EReal)) (h2 : 0 < (hi : EReal) - x)
    (hw : (hi : EReal) - (lo : EReal) < ((128 : ℝ) : EReal)) :
    x - (lo : EReal) < ((128 : ℝ) : EReal) ∧ (hi : EReal) - x < ((128 : ℝ) : EReal) := by
  induction x with
  | bot => simp at h1
  | top => simp at h2
  | coe x =>
    norm_cast at *
    constructor <;> linarith

/-- A box narrower than 128 on both axes that strictly contains the point has its sides nearer than 128. -/
theorem far_lt (B : Boxes) (hB : AllReal B) (x y : EReal) (b : Fin 1000) (h : 0 < near B x y b)
    (hx : B b 2 - B b 0 < ((128 : ℝ) : EReal)) (hy : B b 3 - B b 1 < ((128 : ℝ) : EReal)) : far B x y b < ((128 : ℝ) : EReal) := by
  unfold near at h
  simp only [lt_min_iff] at h
  obtain ⟨⟨hl, ht⟩, hr, hd⟩ := h
  unfold far
  obtain ⟨r0, e0⟩ := hB b 0
  obtain ⟨r1, e1⟩ := hB b 1
  obtain ⟨r2, e2⟩ := hB b 2
  obtain ⟨r3, e3⟩ := hB b 3
  rw [e0] at hl hx ⊢
  rw [e1] at ht hy ⊢
  rw [e2] at hr hx ⊢
  rw [e3] at hd hy ⊢
  obtain ⟨a1, a2⟩ := inside_axis r0 r2 x hl hr hx
  obtain ⟨a3, a4⟩ := inside_axis r1 r3 y ht hd hy
  exact max_lt (max_lt a1 a3) (max_lt a2 a4)

theorem allReal_of (B : Boxes) (h : ∀ b k, ⊥ < B b k ∧ B b k < ⊤) : AllReal B := fun b k =>
  ⟨(B b k).toReal, (EReal.coe_toReal (h b k).2.ne (h b k).1.ne').symm⟩

/-- No box competes where the range starts at 128 or above. -/
theorem cand_cap (B : Boxes) (hB : AllReal B) (x y lo up : EReal) (b : Fin 1000)
    (hx : B b 2 - B b 0 < ((128 : ℝ) : EReal)) (hy : B b 3 - B b 1 < ((128 : ℝ) : EReal)) (hlo : ((128 : ℝ) : EReal) ≤ lo) :
    cand B x y lo up b = cap := by
  unfold cand
  refine if_neg fun h => ?_
  exact absurd (far_lt B hB x y b h.1 hx hy) (not_lt.mpr (hlo.trans h.2.1))

attribute [local instance] preFacts in
/-- The precondition, read. -/
theorem pre_use (I : FVec Ideal S3x512x512 .f32) (B : FVec Ideal S1000x4 .f32) (L : IVec S1000 32) (P R : FVec Ideal S5456x2 .f32)
    (h : fn (F := Ideal) I B L P R = fun _ => 1#1) :
    AllReal (boxes B) ∧ ∀ p : Fin 5456, 5120 ≤ p.val → ∀ b, rowCand B P R p b = cap := by
  obtain ⟨hf, hn, hr⟩ := pre_parts I B L P R h
  have hB : AllReal (boxes B) := allReal_of _ hf
  refine ⟨hB, fun p hp b => cand_cap (boxes B) hB _ _ _ _ b (hn b 0) (hn b 1) ?_⟩
  have := hr ⟨p.val - 5120, by omega⟩
  rwa [show lastRow ⟨p.val - 5120, by omega⟩ = p from Fin.ext (by simp; omega)] at this
end Cert.Proof
end
-- ==== Proof.RefRun.lean ====
/-
  The run of the reference with its results read at an index, and the claim that both programs compute the same arrays.
-/
module
public import proofs.«01_k».proof.Defs
public import proofs.«01_k».proof.Proof.RefB
public import proofs.«01_k».proof.Proof.RefFrame
public import proofs.«01_k».proof.Proof.Tail
@[expose] public section
noncomputable section
namespace Cert.Proof
open Idealize.ShloMosaic Idealize.SL.Sem
open Cert.Proof.Fcos

attribute [local instance] Cert.KernelIdeal.Gen.facts Cert.ReferenceIdeal.Gen.facts preFacts

section
open Cert.ReferenceIdeal

/-- The run of the reference: every result at what the line leaves, the arguments unchanged. -/
theorem reference_run (m : (ℓ : Loc nD τ sig) → Buf (Elt Ideal) ℓ) (g : Dev nD → PrngReg) :
    θ_run (Cert.ReferenceIdeal.defs (F := Ideal)) (onTc (τ := τ) (Cert.ReferenceIdeal.main (F := Ideal))) ⟨m, fun _ => 0, g⟩
      fun r => ∀ c : Dev nD,
        (r.2.mem ((c.tc : Thread nD τ).loc main_v64) = StableHlo.after lineR.1 (StableHlo.launchContents m c) (Proc.devRef .tc main_v64)
        ∧ r.2.mem ((c.tc : Thread nD τ).loc main_v61) = StableHlo.after lineR.1 (StableHlo.launchContents m c) (Proc.devRef .tc main_v61)
        ∧ r.2.mem ((c.tc : Thread nD τ).loc main_v85) = StableHlo.after lineR.1 (StableHlo.launchContents m c) (Proc.devRef .tc main_v85))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run _ _ _).mono (fun _ h c => ⟨⟨h.1 c main_v64, h.1 c main_v61, h.1 c main_v85⟩, h.2.1 c⟩)
    (θ_run_and (runLineR m g) (frameR m g trivial))
end

/-- What both programs compute, when the reference's arguments are the kernel's. -/
theorem same_results (V : Vals) (B : Vec Ideal Cert.KernelIdeal.S1000x4 .f32) (L : Vec Ideal Cert.KernelIdeal.S1000 .i32)
    (P R : Vec Ideal Cert.KernelIdeal.S5456x2 .f32)
    (h1 : V (Proc.devRef .tc Cert.ReferenceIdeal.main_arg1) = B) (h2 : V (Proc.devRef .tc Cert.ReferenceIdeal.main_arg2) = L)
    (h3 : V (Proc.devRef .tc Cert.ReferenceIdeal.main_arg3) = P) (h4 : V (Proc.devRef .tc Cert.ReferenceIdeal.main_arg4) = R) :
    StableHlo.after lineR.1 V (Proc.devRef .tc Cert.ReferenceIdeal.main_v64) = regT B P R
    ∧ StableHlo.after lineR.1 V (Proc.devRef .tc Cert.ReferenceIdeal.main_v61)
        = (fun i : Cert.KernelIdeal.S5456.Idx => clsT B (labelCol L) P R (ix2 (i 0) 0))
    ∧ StableHlo.after lineR.1 V (Proc.devRef .tc Cert.ReferenceIdeal.main_v85) = cntT B P R := by
  subst h1 h2 h3 h4
  refine ⟨?_, ?_, ?_⟩
  · funext y
    obtain ⟨p, k, rfl⟩ : ∃ (p : Fin 5456) (k : Fin 4), y = ix2 p k :=
      ⟨y 0, y 1, by funext a; match a with | ⟨0, _⟩ => rfl | ⟨1, _⟩ => rfl⟩
    exact ref_reg V p k
  · funext y
    obtain ⟨p, rfl⟩ : ∃ p : Fin 5456, y = ix1 p := ⟨y 0, by funext a; match a with | ⟨0, _⟩ => rfl⟩
    exact ref_cls V p
  · funext y
    obtain ⟨p, rfl⟩ := idx_col y
    exact ref_cnt V p

/-- The kernel's results are the reference's, on every input the precondition admits. -/
theorem algebraic : Cert.algebraic_KernelIdeal_ReferenceIdeal_pre_coarse_levels_out_of_reach := by
  intro m g m' g' hpre hagree
  have hp := fun c => pre_use _ _ _ _ _ (hpre c)
  refine ⟨fun c => m _, fun c => regT (boxArg m c) (pointArg m c) (rangeArg m c), fun c => clsRow m c,
    fun c => cntT (boxArg m c) (pointArg m c) (rangeArg m c),
    kernel_run m g (fun c => (hp c).1) (fun c => (hp c).2), ?_⟩
  refine (θ_run _ _ _).mono (fun r h c => ?_) (reference_run m' g')
  obtain ⟨⟨e64, e61, e85⟩, k0, k1, k2, k3, k4⟩ := h c
  obtain ⟨a0, a1, a2, a3, a4⟩ := hagree c
  obtain ⟨s64, s61, s85⟩ := same_results (StableHlo.launchContents m' c) (boxArg m c) (labelArg m c) (pointArg m c) (rangeArg m c) a1 a2 a3 a4
  exact ⟨k0.trans a0, e64.trans s64, e61.trans s61, e85.trans s85, k0, k1, k2, k3, k4⟩
end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The claims, one by one: the frames of the kernel and of the reference, with and without the precondition; the
statement of the rewrite; and the equality of the two programs' results. -/
theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ,
  fun m ρ _ => Cert.KernelIdeal.Gen.frame m ρ, frameR, fun m ρ _ => frameR m ρ trivial,
  IdealRules.bf16_pack.statement _, algebraic⟩

end Cert.Proof

end
